-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_inputs [hPre_inputs : Cert.Pre_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_inputs [hPre_inputs : Cert.Pre_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_inputs [hKernelIdeal : Cert.KernelIdeal.Facts] [hPre_inputs : Cert.Pre_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_inputs [hReferenceIdeal : Cert.ReferenceIdeal.Facts] [hPre_inputs : Cert.Pre_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "inv_127_5" .f32 0x3C008081#32 ((2 / 255 : ℝ) : EReal)

def algebraic_KernelIdeal_ReferenceIdeal_pre_inputs [hKernelIdeal : Cert.KernelIdeal.Facts] [hReferenceIdeal : Cert.ReferenceIdeal.Facts] [hPre_inputs : Cert.Pre_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v420) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_inputs : Cert.Pre_inputs.Facts),
    quiescent_Kernel (hKernel := hKernel)
    ∧ quiescent_KernelIdeal (hKernelIdeal := hKernelIdeal)
    ∧ quiescent_KernelIdeal_pre_inputs (hKernelIdeal := hKernelIdeal) (hPre_inputs := hPre_inputs)
    ∧ quiescent_ReferenceIdeal (hReferenceIdeal := hReferenceIdeal)
    ∧ quiescent_ReferenceIdeal_pre_inputs (hReferenceIdeal := hReferenceIdeal) (hPre_inputs := hPre_inputs)
    ∧ preserves_Kernel_KernelIdeal
    ∧ algebraic_KernelIdeal_ReferenceIdeal_pre_inputs (hKernelIdeal := hKernelIdeal) (hReferenceIdeal := hReferenceIdeal) (hPre_inputs := hPre_inputs)
-- ==== Pre_inputs.lean ====
abbrev S16x3x32x32 : Shape := ⟨4, ![16, 3, 32, 32]⟩
abbrev S16x100x32x32 : Shape := ⟨4, ![16, 100, 32, 32]⟩
abbrev S_ : Shape := ⟨0, ![]⟩

class Facts : Prop where
  bcast_S_S16x3x32x32 : S_.BroadcastsInDim S16x3x32x32 (![] : Fin 0 → Fin S16x3x32x32.rank)
  reducesTo_S16x3x32x32_S_d0_1_2_3 : S16x3x32x32.ReducesTo [0, 1, 2, 3] S_
  h_S_ : 0 < S_.numel
  bcast_S_S16x100x32x32 : S_.BroadcastsInDim S16x100x32x32 (![] : Fin 0 → Fin S16x100x32x32.rank)
  reducesTo_S16x100x32x32_S_d0_1_2_3 : S16x100x32x32.ReducesTo [0, 1, 2, 3] S_

variable [Facts]

def fn {F : FTy → Type} [FloatOps F] (main_arg0 : FVec F S16x3x32x32 .f32) (main_arg1 : FVec F S16x100x32x32 .f32) (main_arg2 : IVec S_ 32) : IVec S_ 1 :=
  let main_cst : FVec F S_ .f32 := constant S_ .f32 0xBF800000#32
  let main_v0 : FVec F S16x3x32x32 .f32 := broadcastInDim S16x3x32x32 ![] bcast_S_S16x3x32x32 main_cst
  let main_v1 : IVec S16x3x32x32 1 := cmpf .oge main_arg0 main_v0
  let main_c : IVec S_ 1 := constantI S_ 1 1#1
  let main_v2 : IVec S_ 1 := (fun x v => Host.reduce IntOp.andi x v reducesTo_S16x3x32x32_S_d0_1_2_3 h_S_) main_v1 main_c
  let main_cst_0 : FVec F S_ .f32 := constant S_ .f32 0x3F800000#32
  let main_v3 : FVec F S16x3x32x32 .f32 := broadcastInDim S16x3x32x32 ![] bcast_S_S16x3x32x32 main_cst_0
  let main_v4 : IVec S16x3x32x32 1 := cmpf .ole main_arg0 main_v3
  let main_c_1 : IVec S_ 1 := constantI S_ 1 1#1
  let main_v5 : IVec S_ 1 := (fun x v => Host.reduce IntOp.andi x v reducesTo_S16x3x32x32_S_d0_1_2_3 h_S_) main_v4 main_c_1
  let main_v6 : IVec S_ 1 := andi main_v2 main_v5
  let main_v7 : FVec F S16x100x32x32 .f32 := Host.absf main_arg1
  let main_cst_2 : FVec F S_ .f32 := constant S_ .f32 0x6AA56FA6#32
  let main_v8 : FVec F S16x100x32x32 .f32 := broadcastInDim S16x100x32x32 ![] bcast_S_S16x100x32x32 main_cst_2
  let main_v9 : IVec S16x100x32x32 1 := cmpf .ole main_v7 main_v8
  let main_c_3 : IVec S_ 1 := constantI S_ 1 1#1
  let main_v10 : IVec S_ 1 := (fun x v => Host.reduce IntOp.andi x v reducesTo_S16x100x32x32_S_d0_1_2_3 h_S_) main_v9 main_c_3
  let main_v11 : IVec S_ 1 := andi main_v6 main_v10
  let main_c_4 : IVec S_ 32 := constantI S_ 32 0#32
  let main_v12 : IVec S_ 1 := cmpi .sge main_arg2 main_c_4
  let main_v13 : IVec S_ 1 := andi main_v11 main_v12
  let main_c_5 : IVec S_ 32 := constantI S_ 32 19#32
  let main_v14 : IVec S_ 1 := cmpi .sle main_arg2 main_c_5
  let main_v15 : IVec S_ 1 := andi main_v13 main_v14
  main_v15
-- ==== Kernel.lean ====
abbrev S16x3x32x32 : Shape := ⟨4, ![16, 3, 32, 32]⟩
abbrev S16x100x32x32 : Shape := ⟨4, ![16, 100, 32, 32]⟩
abbrev S_ : Shape := ⟨0, ![]⟩
abbrev S16x3x1024 : Shape := ⟨3, ![16, 3, 1024]⟩
abbrev S16x100x1024 : Shape := ⟨3, ![16, 100, 1024]⟩
abbrev S1 : Shape := ⟨1, ![1]⟩
abbrev S1x3x1024 : Shape := ⟨3, ![1, 3, 1024]⟩
abbrev S1x100x1024 : Shape := ⟨3, ![1, 100, 1024]⟩
abbrev S40x1024 : Shape := ⟨2, ![40, 1024]⟩
abbrev S1x10x1024 : Shape := ⟨3, ![1, 10, 1024]⟩
abbrev S10x1024 : Shape := ⟨2, ![10, 1024]⟩
abbrev S1024 : Shape := ⟨1, ![1024]⟩
abbrev S1x1024 : Shape := ⟨2, ![1, 1024]⟩
abbrev S1x1x1024 : Shape := ⟨3, ![1, 1, 1024]⟩
abbrev S3x1024 : Shape := ⟨2, ![3, 1024]⟩

abbrev nBuf : Space → Nat
  | .hbm => 8
  | .vmem => 6
  | .smem => 1
  | _ => 0

abbrev bufTy : (tb : Table) → Fin (tcTables nBuf tb) → BufTy
  | .hbm, ⟨0, _⟩ => ⟨S16x3x32x32, .f32⟩
  | .hbm, ⟨1, _⟩ => ⟨S16x100x32x32, .f32⟩
  | .hbm, ⟨2, _⟩ => ⟨S_, .i32⟩
  | .hbm, ⟨3, _⟩ => ⟨S16x3x1024, .f32⟩
  | .hbm, ⟨4, _⟩ => ⟨S16x100x1024, .f32⟩
  | .hbm, ⟨5, _⟩ => ⟨S1, .i32⟩
  | .hbm, ⟨6, _⟩ => ⟨S16x3x1024, .f32⟩
  | .hbm, ⟨7, _⟩ => ⟨S16x3x32x32, .f32⟩
  | .local _ .vmem, ⟨0, _⟩ => ⟨S1x3x1024, .f32⟩
  | .local _ .vmem, ⟨1, _⟩ => ⟨S1x3x1024, .f32⟩
  | .local _ .vmem, ⟨2, _⟩ => ⟨S1x100x1024, .f32⟩
  | .local _ .vmem, ⟨3, _⟩ => ⟨S1x100x1024, .f32⟩
  | .local _ .vmem, ⟨4, _⟩ => ⟨S1x3x1024, .f32⟩
  | .local _ .vmem, ⟨5, _⟩ => ⟨S1x3x1024, .f32⟩
  | .local _ .smem, ⟨0, _⟩ => ⟨S1, .i32⟩
  | _, _ => ⟨S16x3x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg2_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x3x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x100x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .smem S1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x3x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== KernelIdeal.lean ====
variable {F : FTy → Type} [FloatOps F] [Named F]
def κ : String → Option EReal := fun
  | "inv_127_5" => some ((2 / 255 : ℝ) : EReal)
  | _ => none
-- ==== ReferenceIdeal.lean ====
abbrev S16x3x32x32 : Shape := ⟨4, ![16, 3, 32, 32]⟩
abbrev S16x100x32x32 : Shape := ⟨4, ![16, 100, 32, 32]⟩
abbrev S_ : Shape := ⟨0, ![]⟩
abbrev S16x32x32x3 : Shape := ⟨4, ![16, 32, 32, 3]⟩
abbrev S16x32x32x100 : Shape := ⟨4, ![16, 32, 32, 100]⟩
abbrev S16x32x32x3x1 : Shape := ⟨5, ![16, 32, 32, 3, 1]⟩
abbrev S256 : Shape := ⟨1, ![256]⟩
abbrev S1x1x1x1x256 : Shape := ⟨5, ![1, 1, 1, 1, 256]⟩
abbrev S16x32x32x3x256 : Shape := ⟨5, ![16, 32, 32, 3, 256]⟩
abbrev S255 : Shape := ⟨1, ![255]⟩
abbrev S254 : Shape := ⟨1, ![254]⟩
abbrev S16x32x32x90 : Shape := ⟨4, ![16, 32, 32, 90]⟩
abbrev S16x32x32x3x30 : Shape := ⟨5, ![16, 32, 32, 3, 30]⟩
abbrev S16x32x32x10 : Shape := ⟨4, ![16, 32, 32, 10]⟩
abbrev S16x32x32 : Shape := ⟨3, ![16, 32, 32]⟩
abbrev S16x32x32x1 : Shape := ⟨4, ![16, 32, 32, 1]⟩
abbrev S16x32x32x3x10 : Shape := ⟨5, ![16, 32, 32, 3, 10]⟩
abbrev S16x32x32x1x10 : Shape := ⟨5, ![16, 32, 32, 1, 10]⟩
abbrev S16x32x32x3x10x1 : Shape := ⟨6, ![16, 32, 32, 3, 10, 1]⟩
abbrev S1x1x1x1x1x255 : Shape := ⟨6, ![1, 1, 1, 1, 1, 255]⟩
abbrev S16x32x32x3x10x255 : Shape := ⟨6, ![16, 32, 32, 3, 10, 255]⟩
abbrev S16x32x32x3x10x254 : Shape := ⟨6, ![16, 32, 32, 3, 10, 254]⟩
abbrev S1 : Shape := ⟨1, ![1]⟩
abbrev S1x1x1x1x1x254 : Shape := ⟨6, ![1, 1, 1, 1, 1, 254]⟩
abbrev S16x32x32x3x10x256 : Shape := ⟨6, ![16, 32, 32, 3, 10, 256]⟩
abbrev S16x32x32x1x10x1 : Shape := ⟨6, ![16, 32, 32, 1, 10, 1]⟩

abbrev nBuf : Space → Nat
  | .hbm => 614
  | .vmem => 0
  | .smem => 0
  | _ => 0

abbrev hbmTy0_0 (i : Nat) : BufTy := match i % 128 with
  | 0 => ⟨S16x3x32x32, .f32⟩
  | 1 => ⟨S16x100x32x32, .f32⟩
  | 2 => ⟨S_, .i32⟩
  | 3 => ⟨S16x32x32x3, .f32⟩
  | 4 => ⟨S16x32x32x100, .f32⟩
  | 5 => ⟨S_, .f32⟩
  | 6 => ⟨S16x32x32x3, .f32⟩
  | 7 => ⟨S16x32x32x3, .f32⟩
  | 8 => ⟨S_, .f32⟩
  | 9 => ⟨S16x32x32x3, .f32⟩
  | 10 => ⟨S16x32x32x3, .f32⟩
  | 11 => ⟨S16x32x32x3, .i32⟩
  | 12 => ⟨S16x32x32x3, .i32⟩
  | 13 => ⟨S16x32x32x3, .i32⟩
  | 14 => ⟨S_, .i32⟩
  | 15 => ⟨S16x32x32x3, .i32⟩
  | 16 => ⟨S16x32x32x3, .i32⟩
  | 17 => ⟨S16x32x32x3x1, .i32⟩
  | 18 => ⟨S16x32x32x3, .i32⟩
  | 19 => ⟨S16x32x32x3, .i32⟩
  | 20 => ⟨S_, .i32⟩
  | 21 => ⟨S16x32x32x3, .i32⟩
  | 22 => ⟨S16x32x32x3, .i32⟩
  | 23 => ⟨S16x32x32x3x1, .i32⟩
  | 24 => ⟨S256, .i32⟩
  | 25 => ⟨S1x1x1x1x256, .i32⟩
  | 26 => ⟨S16x32x32x3x256, .i32⟩
  | 27 => ⟨S16x32x32x3x256, .i32⟩
  | 28 => ⟨S16x32x32x3x256, .i1⟩
  | 29 => ⟨S1x1x1x1x256, .i32⟩
  | 30 => ⟨S16x32x32x3x256, .i32⟩
  | 31 => ⟨S16x32x32x3x256, .i32⟩
  | 32 => ⟨S16x32x32x3x256, .i1⟩
  | 33 => ⟨S16x32x32x3x256, .i1⟩
  | 34 => ⟨S16x32x32x3x256, .f32⟩
  | 35 => ⟨S_, .f32⟩
  | 36 => ⟨S16x32x32x3x256, .f32⟩
  | 37 => ⟨S16x32x32x3x256, .f32⟩
  | 38 => ⟨S255, .i32⟩
  | 39 => ⟨S_, .i32⟩
  | 40 => ⟨S255, .i32⟩
  | 41 => ⟨S255, .i32⟩
  | 42 => ⟨S255, .f32⟩
  | 43 => ⟨S_, .f32⟩
  | 44 => ⟨S255, .f32⟩
  | 45 => ⟨S255, .f32⟩
  | 46 => ⟨S_, .f32⟩
  | 47 => ⟨S255, .f32⟩
  | 48 => ⟨S255, .f32⟩
  | 49 => ⟨S254, .i32⟩
  | 50 => ⟨S_, .i32⟩
  | 51 => ⟨S254, .i32⟩
  | 52 => ⟨S254, .i32⟩
  | 53 => ⟨S_, .i32⟩
  | 54 => ⟨S254, .i32⟩
  | 55 => ⟨S254, .i32⟩
  | 56 => ⟨S_, .i32⟩
  | 57 => ⟨S254, .i32⟩
  | 58 => ⟨S254, .i32⟩
  | 59 => ⟨S254, .f32⟩
  | 60 => ⟨S_, .f32⟩
  | 61 => ⟨S254, .f32⟩
  | 62 => ⟨S254, .f32⟩
  | 63 => ⟨S_, .f32⟩
  | 64 => ⟨S254, .f32⟩
  | 65 => ⟨S254, .f32⟩
  | 66 => ⟨S16x32x32x90, .f32⟩
  | 67 => ⟨S16x32x32x3x30, .f32⟩
  | 68 => ⟨S16x32x32x10, .f32⟩
  | 69 => ⟨S_, .f32⟩
  | 70 => ⟨S16x32x32, .f32⟩
  | 71 => ⟨S_, .f32⟩
  | 72 => ⟨S16x32x32, .f32⟩
  | 73 => ⟨S16x32x32, .f32⟩
  | 74 => ⟨S16x32x32x1, .f32⟩
  | 75 => ⟨S16x32x32x10, .f32⟩
  | 76 => ⟨S16x32x32x10, .f32⟩
  | 77 => ⟨S16x32x32x10, .f32⟩
  | 78 => ⟨S_, .f32⟩
  | 79 => ⟨S16x32x32, .f32⟩
  | 80 => ⟨S16x32x32x1, .f32⟩
  | 81 => ⟨S16x32x32x1, .f32⟩
  | 82 => ⟨S16x32x32x10, .f32⟩
  | 83 => ⟨S16x32x32x10, .f32⟩
  | 84 => ⟨S16x32x32x3x10, .f32⟩
  | 85 => ⟨S16x32x32x3x10, .f32⟩
  | 86 => ⟨S_, .f32⟩
  | 87 => ⟨S16x32x32x3x10, .f32⟩
  | 88 => ⟨S16x32x32x3x10, .f32⟩
  | 89 => ⟨S16x32x32x3x10, .f32⟩
  | 90 => ⟨S16x32x32x3x10, .f32⟩
  | 91 => ⟨S16x32x32x1x10, .f32⟩
  | 92 => ⟨S16x32x32x10, .f32⟩
  | 93 => ⟨S16x32x32x1x10, .f32⟩
  | 94 => ⟨S16x32x32x10, .f32⟩
  | 95 => ⟨S16x32x32x1x10, .f32⟩
  | 96 => ⟨S16x32x32x10, .f32⟩
  | 97 => ⟨S16x32x32x1, .f32⟩
  | 98 => ⟨S16x32x32, .f32⟩
  | 99 => ⟨S16x32x32x1, .f32⟩
  | 100 => ⟨S16x32x32x10, .f32⟩
  | 101 => ⟨S16x32x32x10, .f32⟩
  | 102 => ⟨S16x32x32x10, .f32⟩
  | 103 => ⟨S16x32x32x1x10, .f32⟩
  | 104 => ⟨S16x32x32x10, .f32⟩
  | 105 => ⟨S16x32x32x1x10, .f32⟩
  | 106 => ⟨S16x32x32x10, .f32⟩
  | 107 => ⟨S16x32x32x1, .f32⟩
  | 108 => ⟨S16x32x32, .f32⟩
  | 109 => ⟨S16x32x32x1, .f32⟩
  | 110 => ⟨S16x32x32x10, .f32⟩
  | 111 => ⟨S16x32x32x10, .f32⟩
  | 112 => ⟨S16x32x32x10, .f32⟩
  | 113 => ⟨S16x32x32x1x10, .f32⟩
  | 114 => ⟨S16x32x32x10, .f32⟩
  | 115 => ⟨S16x32x32x1, .f32⟩
  | 116 => ⟨S16x32x32, .f32⟩
  | 117 => ⟨S16x32x32x1, .f32⟩
  | 118 => ⟨S16x32x32x10, .f32⟩
  | 119 => ⟨S16x32x32x10, .f32⟩
  | 120 => ⟨S16x32x32x10, .f32⟩
  | 121 => ⟨S16x32x32x1x10, .f32⟩
  | 122 => ⟨S16x32x32x1x10, .f32⟩
  | 123 => ⟨S16x32x32x1x10, .f32⟩
  | 124 => ⟨S16x32x32x3x10, .f32⟩
  | 125 => ⟨S16x32x32x3x10, .f32⟩
  | 126 => ⟨S16x32x32x3x10, .f32⟩
  | 127 => ⟨S16x32x32x3x10x1, .f32⟩
  | _ => ⟨S16x3x32x32, .f32⟩

abbrev hbmTy0_1 (i : Nat) : BufTy := match i % 128 with
  | 0 => ⟨S16x32x32x3x10x1, .f32⟩
  | 1 => ⟨S1x1x1x1x1x255, .f32⟩
  | 2 => ⟨S16x32x32x3x10x255, .f32⟩
  | 3 => ⟨S16x32x32x3x10x255, .f32⟩
  | 4 => ⟨S16x32x32x3x10x255, .f32⟩
  | 5 => ⟨S16x32x32x3x10x255, .f32⟩
  | 6 => ⟨S16x32x32x3x10x255, .f32⟩
  | 7 => ⟨S16x32x32x3x10x255, .f32⟩
  | 8 => ⟨S16x32x32x3x10x255, .f32⟩
  | 9 => ⟨S_, .f32⟩
  | 10 => ⟨S16x32x32x3x10x255, .f32⟩
  | 11 => ⟨S16x32x32x3x10x255, .f32⟩
  | 12 => ⟨S_, .f32⟩
  | 13 => ⟨S16x32x32x3x10x255, .f32⟩
  | 14 => ⟨S16x32x32x3x10x255, .f32⟩
  | 15 => ⟨S16x32x32x3x10x254, .f32⟩
  | 16 => ⟨S16x32x32x3x10x254, .f32⟩
  | 17 => ⟨S16x32x32x3x10x254, .f32⟩
  | 18 => ⟨S1, .f32⟩
  | 19 => ⟨S_, .f32⟩
  | 20 => ⟨S16x32x32x3x10, .f32⟩
  | 21 => ⟨S16x32x32x3x10, .f32⟩
  | 22 => ⟨S16x32x32x3x10, .f32⟩
  | 23 => ⟨S1, .f32⟩
  | 24 => ⟨S_, .f32⟩
  | 25 => ⟨S16x32x32x3x10, .f32⟩
  | 26 => ⟨S16x32x32x3x10, .f32⟩
  | 27 => ⟨S16x32x32x3x10, .f32⟩
  | 28 => ⟨S_, .f32⟩
  | 29 => ⟨S16x32x32x3x10, .f32⟩
  | 30 => ⟨S16x32x32x3x10, .f32⟩
  | 31 => ⟨S16x32x32x3x10, .f32⟩
  | 32 => ⟨S16x32x32x3x10, .f32⟩
  | 33 => ⟨S16x32x32x3x10, .i1⟩
  | 34 => ⟨S16x32x32x3x10, .f32⟩
  | 35 => ⟨S16x32x32x3x10, .f32⟩
  | 36 => ⟨S16x32x32x3x10, .f32⟩
  | 37 => ⟨S16x32x32x3x10, .f32⟩
  | 38 => ⟨S16x32x32x3x10, .f32⟩
  | 39 => ⟨S16x32x32x3x10, .f32⟩
  | 40 => ⟨S16x32x32x3x10, .f32⟩
  | 41 => ⟨S16x32x32x3x10, .f32⟩
  | 42 => ⟨S16x32x32x3x10, .f32⟩
  | 43 => ⟨S_, .f32⟩
  | 44 => ⟨S16x32x32x3x10, .f32⟩
  | 45 => ⟨S16x32x32x3x10, .f32⟩
  | 46 => ⟨S16x32x32x3x10, .f32⟩
  | 47 => ⟨S16x32x32x3x10, .f32⟩
  | 48 => ⟨S16x32x32x3x10, .i1⟩
  | 49 => ⟨S16x32x32x3x10, .f32⟩
  | 50 => ⟨S16x32x32x3x10, .f32⟩
  | 51 => ⟨S16x32x32x3x10, .f32⟩
  | 52 => ⟨S16x32x32x3x10, .f32⟩
  | 53 => ⟨S16x32x32x3x10, .f32⟩
  | 54 => ⟨S16x32x32x3x10, .f32⟩
  | 55 => ⟨S16x32x32x3x10, .f32⟩
  | 56 => ⟨S16x32x32x3x10, .f32⟩
  | 57 => ⟨S16x32x32x3x10, .f32⟩
  | 58 => ⟨S1x1x1x1x1x254, .f32⟩
  | 59 => ⟨S16x32x32x3x10x254, .f32⟩
  | 60 => ⟨S16x32x32x3x10x254, .f32⟩
  | 61 => ⟨S16x32x32x3x10x254, .f32⟩
  | 62 => ⟨S16x32x32x3x10x254, .f32⟩
  | 63 => ⟨S16x32x32x3x10x254, .f32⟩
  | 64 => ⟨S16x32x32x3x10x1, .f32⟩
  | 65 => ⟨S16x32x32x3x10x254, .f32⟩
  | 66 => ⟨S16x32x32x3x10x254, .f32⟩
  | 67 => ⟨S_, .f32⟩
  | 68 => ⟨S16x32x32x3x10x254, .f32⟩
  | 69 => ⟨S16x32x32x3x10x254, .f32⟩
  | 70 => ⟨S16x32x32x3x10x254, .f32⟩
  | 71 => ⟨S16x32x32x3x10x254, .f32⟩
  | 72 => ⟨S16x32x32x3x10x254, .i1⟩
  | 73 => ⟨S16x32x32x3x10x254, .f32⟩
  | 74 => ⟨S16x32x32x3x10x254, .f32⟩
  | 75 => ⟨S16x32x32x3x10x254, .f32⟩
  | 76 => ⟨S16x32x32x3x10x254, .f32⟩
  | 77 => ⟨S16x32x32x3x10x254, .f32⟩
  | 78 => ⟨S16x32x32x3x10x254, .f32⟩
  | 79 => ⟨S16x32x32x3x10x254, .f32⟩
  | 80 => ⟨S16x32x32x3x10x254, .f32⟩
  | 81 => ⟨S_, .f32⟩
  | 82 => ⟨S16x32x32x3x10x254, .f32⟩
  | 83 => ⟨S16x32x32x3x10x254, .f32⟩
  | 84 => ⟨S16x32x32x3x10x254, .f32⟩
  | 85 => ⟨S_, .f32⟩
  | 86 => ⟨S16x32x32x3x10x254, .f32⟩
  | 87 => ⟨S16x32x32x3x10x254, .i1⟩
  | 88 => ⟨S_, .f32⟩
  | 89 => ⟨S16x32x32x3x10x254, .f32⟩
  | 90 => ⟨S16x32x32x3x10x254, .f32⟩
  | 91 => ⟨S16x32x32x3x10x254, .f32⟩
  | 92 => ⟨S_, .f32⟩
  | 93 => ⟨S_, .f32⟩
  | 94 => ⟨S16x32x32x3x10x254, .f32⟩
  | 95 => ⟨S16x32x32x3x10x254, .f32⟩
  | 96 => ⟨S16x32x32x3x10x254, .f32⟩
  | 97 => ⟨S16x32x32x3x10x1, .f32⟩
  | 98 => ⟨S16x32x32x3x10x1, .f32⟩
  | 99 => ⟨S16x32x32x3x10x256, .f32⟩
  | 100 => ⟨S16x32x32x1x10x1, .f32⟩
  | 101 => ⟨S16x32x32x3x10x256, .f32⟩
  | 102 => ⟨S16x32x32x3x10x256, .f32⟩
  | 103 => ⟨S16x32x32x3x10x256, .f32⟩
  | 104 => ⟨S_, .f32⟩
  | 105 => ⟨S16x32x32x3x256, .f32⟩
  | 106 => ⟨S16x32x32x3x256, .f32⟩
  | 107 => ⟨S16x32x32x3x256, .f32⟩
  | 108 => ⟨S_, .f32⟩
  | 109 => ⟨S16x32x32x3, .f32⟩
  | 110 => ⟨S16x32x32x3x1, .f32⟩
  | 111 => ⟨S16x32x32x3x256, .f32⟩
  | 112 => ⟨S16x32x32x3x256, .i1⟩
  | 113 => ⟨S_, .i32⟩
  | 114 => ⟨S_, .i32⟩
  | 115 => ⟨S16x32x32x3x256, .i32⟩
  | 116 => ⟨S16x32x32x3x256, .i32⟩
  | 117 => ⟨S16x32x32x3x256, .i32⟩
  | 118 => ⟨S_, .i32⟩
  | 119 => ⟨S16x32x32x3, .i32⟩
  | 120 => ⟨S16x32x32x3, .f32⟩
  | 121 => ⟨S_, .f32⟩
  | 122 => ⟨S16x32x32x3, .f32⟩
  | 123 => ⟨S16x32x32x3, .f32⟩
  | 124 => ⟨S_, .f32⟩
  | 125 => ⟨S16x32x32x3, .f32⟩
  | 126 => ⟨S16x32x32x3, .f32⟩
  | 127 => ⟨S16x32x32x1, .f32⟩
  | _ => ⟨S16x3x32x32, .f32⟩

abbrev hbmTy0_2 (i : Nat) : BufTy := match i % 128 with
  | 0 => ⟨S16x32x32, .f32⟩
  | 1 => ⟨S16x32x32x1, .f32⟩
  | 2 => ⟨S16x32x32, .f32⟩
  | 3 => ⟨S16x32x32x1, .f32⟩
  | 4 => ⟨S16x32x32, .f32⟩
  | 5 => ⟨S16x32x32x1, .f32⟩
  | 6 => ⟨S16x32x32x1, .f32⟩
  | 7 => ⟨S16x32x32x1, .f32⟩
  | 8 => ⟨S16x32x32x3, .f32⟩
  | 9 => ⟨S16x32x32x1x10, .f32⟩
  | 10 => ⟨S16x32x32x10, .f32⟩
  | 11 => ⟨S16x32x32x1x10, .f32⟩
  | 12 => ⟨S16x32x32x10, .f32⟩
  | 13 => ⟨S16x32x32x1x10, .f32⟩
  | 14 => ⟨S16x32x32x10, .f32⟩
  | 15 => ⟨S16x32x32x1, .f32⟩
  | 16 => ⟨S16x32x32, .f32⟩
  | 17 => ⟨S16x32x32x1, .f32⟩
  | 18 => ⟨S16x32x32x10, .f32⟩
  | 19 => ⟨S16x32x32x10, .f32⟩
  | 20 => ⟨S16x32x32x10, .f32⟩
  | 21 => ⟨S16x32x32x1x10, .f32⟩
  | 22 => ⟨S16x32x32x10, .f32⟩
  | 23 => ⟨S16x32x32x1x10, .f32⟩
  | 24 => ⟨S16x32x32x10, .f32⟩
  | 25 => ⟨S16x32x32x1, .f32⟩
  | 26 => ⟨S16x32x32, .f32⟩
  | 27 => ⟨S16x32x32x1, .f32⟩
  | 28 => ⟨S16x32x32x10, .f32⟩
  | 29 => ⟨S16x32x32x10, .f32⟩
  | 30 => ⟨S16x32x32x10, .f32⟩
  | 31 => ⟨S16x32x32x1x10, .f32⟩
  | 32 => ⟨S16x32x32x10, .f32⟩
  | 33 => ⟨S16x32x32x1, .f32⟩
  | 34 => ⟨S16x32x32, .f32⟩
  | 35 => ⟨S16x32x32x1, .f32⟩
  | 36 => ⟨S16x32x32x10, .f32⟩
  | 37 => ⟨S16x32x32x10, .f32⟩
  | 38 => ⟨S16x32x32x10, .f32⟩
  | 39 => ⟨S16x32x32x1x10, .f32⟩
  | 40 => ⟨S16x32x32x1x10, .f32⟩
  | 41 => ⟨S16x32x32x1x10, .f32⟩
  | 42 => ⟨S16x32x32x3x10, .f32⟩
  | 43 => ⟨S16x32x32x3x10, .f32⟩
  | 44 => ⟨S16x32x32x3x10, .f32⟩
  | 45 => ⟨S16x32x32x3x10x1, .f32⟩
  | 46 => ⟨S16x32x32x3x10x1, .f32⟩
  | 47 => ⟨S1x1x1x1x1x255, .f32⟩
  | 48 => ⟨S16x32x32x3x10x255, .f32⟩
  | 49 => ⟨S16x32x32x3x10x255, .f32⟩
  | 50 => ⟨S16x32x32x3x10x255, .f32⟩
  | 51 => ⟨S16x32x32x3x10x255, .f32⟩
  | 52 => ⟨S16x32x32x3x10x255, .f32⟩
  | 53 => ⟨S16x32x32x3x10x255, .f32⟩
  | 54 => ⟨S16x32x32x3x10x255, .f32⟩
  | 55 => ⟨S_, .f32⟩
  | 56 => ⟨S16x32x32x3x10x255, .f32⟩
  | 57 => ⟨S16x32x32x3x10x255, .f32⟩
  | 58 => ⟨S_, .f32⟩
  | 59 => ⟨S16x32x32x3x10x255, .f32⟩
  | 60 => ⟨S16x32x32x3x10x255, .f32⟩
  | 61 => ⟨S16x32x32x3x10x254, .f32⟩
  | 62 => ⟨S16x32x32x3x10x254, .f32⟩
  | 63 => ⟨S16x32x32x3x10x254, .f32⟩
  | 64 => ⟨S1, .f32⟩
  | 65 => ⟨S_, .f32⟩
  | 66 => ⟨S16x32x32x3x10, .f32⟩
  | 67 => ⟨S16x32x32x3x10, .f32⟩
  | 68 => ⟨S16x32x32x3x10, .f32⟩
  | 69 => ⟨S1, .f32⟩
  | 70 => ⟨S_, .f32⟩
  | 71 => ⟨S16x32x32x3x10, .f32⟩
  | 72 => ⟨S16x32x32x3x10, .f32⟩
  | 73 => ⟨S16x32x32x3x10, .f32⟩
  | 74 => ⟨S_, .f32⟩
  | 75 => ⟨S16x32x32x3x10, .f32⟩
  | 76 => ⟨S16x32x32x3x10, .f32⟩
  | 77 => ⟨S16x32x32x3x10, .f32⟩
  | 78 => ⟨S16x32x32x3x10, .f32⟩
  | 79 => ⟨S16x32x32x3x10, .i1⟩
  | 80 => ⟨S16x32x32x3x10, .f32⟩
  | 81 => ⟨S16x32x32x3x10, .f32⟩
  | 82 => ⟨S16x32x32x3x10, .f32⟩
  | 83 => ⟨S16x32x32x3x10, .f32⟩
  | 84 => ⟨S16x32x32x3x10, .f32⟩
  | 85 => ⟨S16x32x32x3x10, .f32⟩
  | 86 => ⟨S16x32x32x3x10, .f32⟩
  | 87 => ⟨S16x32x32x3x10, .f32⟩
  | 88 => ⟨S16x32x32x3x10, .f32⟩
  | 89 => ⟨S_, .f32⟩
  | 90 => ⟨S16x32x32x3x10, .f32⟩
  | 91 => ⟨S16x32x32x3x10, .f32⟩
  | 92 => ⟨S16x32x32x3x10, .f32⟩
  | 93 => ⟨S16x32x32x3x10, .f32⟩
  | 94 => ⟨S16x32x32x3x10, .i1⟩
  | 95 => ⟨S16x32x32x3x10, .f32⟩
  | 96 => ⟨S16x32x32x3x10, .f32⟩
  | 97 => ⟨S16x32x32x3x10, .f32⟩
  | 98 => ⟨S16x32x32x3x10, .f32⟩
  | 99 => ⟨S16x32x32x3x10, .f32⟩
  | 100 => ⟨S16x32x32x3x10, .f32⟩
  | 101 => ⟨S16x32x32x3x10, .f32⟩
  | 102 => ⟨S16x32x32x3x10, .f32⟩
  | 103 => ⟨S16x32x32x3x10, .f32⟩
  | 104 => ⟨S1x1x1x1x1x254, .f32⟩
  | 105 => ⟨S16x32x32x3x10x254, .f32⟩
  | 106 => ⟨S16x32x32x3x10x254, .f32⟩
  | 107 => ⟨S16x32x32x3x10x254, .f32⟩
  | 108 => ⟨S16x32x32x3x10x254, .f32⟩
  | 109 => ⟨S16x32x32x3x10x254, .f32⟩
  | 110 => ⟨S16x32x32x3x10x1, .f32⟩
  | 111 => ⟨S16x32x32x3x10x254, .f32⟩
  | 112 => ⟨S16x32x32x3x10x254, .f32⟩
  | 113 => ⟨S_, .f32⟩
  | 114 => ⟨S16x32x32x3x10x254, .f32⟩
  | 115 => ⟨S16x32x32x3x10x254, .f32⟩
  | 116 => ⟨S16x32x32x3x10x254, .f32⟩
  | 117 => ⟨S16x32x32x3x10x254, .f32⟩
  | 118 => ⟨S16x32x32x3x10x254, .i1⟩
  | 119 => ⟨S16x32x32x3x10x254, .f32⟩
  | 120 => ⟨S16x32x32x3x10x254, .f32⟩
  | 121 => ⟨S16x32x32x3x10x254, .f32⟩
  | 122 => ⟨S16x32x32x3x10x254, .f32⟩
  | 123 => ⟨S16x32x32x3x10x254, .f32⟩
  | 124 => ⟨S16x32x32x3x10x254, .f32⟩
  | 125 => ⟨S16x32x32x3x10x254, .f32⟩
  | 126 => ⟨S16x32x32x3x10x254, .f32⟩
  | 127 => ⟨S_, .f32⟩
  | _ => ⟨S16x3x32x32, .f32⟩

abbrev hbmTy0_3 (i : Nat) : BufTy := match i % 128 with
  | 0 => ⟨S16x32x32x3x10x254, .f32⟩
  | 1 => ⟨S16x32x32x3x10x254, .f32⟩
  | 2 => ⟨S16x32x32x3x10x254, .f32⟩
  | 3 => ⟨S_, .f32⟩
  | 4 => ⟨S16x32x32x3x10x254, .f32⟩
  | 5 => ⟨S16x32x32x3x10x254, .i1⟩
  | 6 => ⟨S_, .f32⟩
  | 7 => ⟨S16x32x32x3x10x254, .f32⟩
  | 8 => ⟨S16x32x32x3x10x254, .f32⟩
  | 9 => ⟨S16x32x32x3x10x254, .f32⟩
  | 10 => ⟨S_, .f32⟩
  | 11 => ⟨S_, .f32⟩
  | 12 => ⟨S16x32x32x3x10x254, .f32⟩
  | 13 => ⟨S16x32x32x3x10x254, .f32⟩
  | 14 => ⟨S16x32x32x3x10x254, .f32⟩
  | 15 => ⟨S16x32x32x3x10x1, .f32⟩
  | 16 => ⟨S16x32x32x3x10x1, .f32⟩
  | 17 => ⟨S16x32x32x3x10x256, .f32⟩
  | 18 => ⟨S16x32x32x1x10x1, .f32⟩
  | 19 => ⟨S16x32x32x3x10x256, .f32⟩
  | 20 => ⟨S16x32x32x3x10x256, .f32⟩
  | 21 => ⟨S16x32x32x3x10x256, .f32⟩
  | 22 => ⟨S_, .f32⟩
  | 23 => ⟨S16x32x32x3x256, .f32⟩
  | 24 => ⟨S16x32x32x3x256, .f32⟩
  | 25 => ⟨S16x32x32x3x256, .f32⟩
  | 26 => ⟨S_, .f32⟩
  | 27 => ⟨S16x32x32x3, .f32⟩
  | 28 => ⟨S16x32x32x3x1, .f32⟩
  | 29 => ⟨S16x32x32x3x256, .f32⟩
  | 30 => ⟨S16x32x32x3x256, .i1⟩
  | 31 => ⟨S_, .i32⟩
  | 32 => ⟨S_, .i32⟩
  | 33 => ⟨S16x32x32x3x256, .i32⟩
  | 34 => ⟨S16x32x32x3x256, .i32⟩
  | 35 => ⟨S16x32x32x3x256, .i32⟩
  | 36 => ⟨S_, .i32⟩
  | 37 => ⟨S16x32x32x3, .i32⟩
  | 38 => ⟨S16x32x32x3, .f32⟩
  | 39 => ⟨S_, .f32⟩
  | 40 => ⟨S16x32x32x3, .f32⟩
  | 41 => ⟨S16x32x32x3, .f32⟩
  | 42 => ⟨S_, .f32⟩
  | 43 => ⟨S16x32x32x3, .f32⟩
  | 44 => ⟨S16x32x32x3, .f32⟩
  | 45 => ⟨S16x32x32x1, .f32⟩
  | 46 => ⟨S16x32x32, .f32⟩
  | 47 => ⟨S16x32x32x1, .f32⟩
  | 48 => ⟨S16x32x32, .f32⟩
  | 49 => ⟨S16x32x32x1, .f32⟩
  | 50 => ⟨S16x32x32, .f32⟩
  | 51 => ⟨S16x32x32x1, .f32⟩
  | 52 => ⟨S16x32x32x1, .f32⟩
  | 53 => ⟨S16x32x32x1, .f32⟩
  | 54 => ⟨S16x32x32x3, .f32⟩
  | 55 => ⟨S16x32x32x1x10, .f32⟩
  | 56 => ⟨S16x32x32x10, .f32⟩
  | 57 => ⟨S16x32x32x1x10, .f32⟩
  | 58 => ⟨S16x32x32x10, .f32⟩
  | 59 => ⟨S16x32x32x1x10, .f32⟩
  | 60 => ⟨S16x32x32x10, .f32⟩
  | 61 => ⟨S16x32x32x1, .f32⟩
  | 62 => ⟨S16x32x32, .f32⟩
  | 63 => ⟨S16x32x32x1, .f32⟩
  | 64 => ⟨S16x32x32x10, .f32⟩
  | 65 => ⟨S16x32x32x10, .f32⟩
  | 66 => ⟨S16x32x32x10, .f32⟩
  | 67 => ⟨S16x32x32x1x10, .f32⟩
  | 68 => ⟨S16x32x32x10, .f32⟩
  | 69 => ⟨S16x32x32x1x10, .f32⟩
  | 70 => ⟨S16x32x32x10, .f32⟩
  | 71 => ⟨S16x32x32x1, .f32⟩
  | 72 => ⟨S16x32x32, .f32⟩
  | 73 => ⟨S16x32x32x1, .f32⟩
  | 74 => ⟨S16x32x32x10, .f32⟩
  | 75 => ⟨S16x32x32x10, .f32⟩
  | 76 => ⟨S16x32x32x10, .f32⟩
  | 77 => ⟨S16x32x32x1x10, .f32⟩
  | 78 => ⟨S16x32x32x10, .f32⟩
  | 79 => ⟨S16x32x32x1, .f32⟩
  | 80 => ⟨S16x32x32, .f32⟩
  | 81 => ⟨S16x32x32x1, .f32⟩
  | 82 => ⟨S16x32x32x10, .f32⟩
  | 83 => ⟨S16x32x32x10, .f32⟩
  | 84 => ⟨S16x32x32x10, .f32⟩
  | 85 => ⟨S16x32x32x1x10, .f32⟩
  | 86 => ⟨S16x32x32x1x10, .f32⟩
  | 87 => ⟨S16x32x32x1x10, .f32⟩
  | 88 => ⟨S16x32x32x3x10, .f32⟩
  | 89 => ⟨S16x32x32x3x10, .f32⟩
  | 90 => ⟨S16x32x32x3x10, .f32⟩
  | 91 => ⟨S16x32x32x3x10x1, .f32⟩
  | 92 => ⟨S16x32x32x3x10x1, .f32⟩
  | 93 => ⟨S1x1x1x1x1x255, .f32⟩
  | 94 => ⟨S16x32x32x3x10x255, .f32⟩
  | 95 => ⟨S16x32x32x3x10x255, .f32⟩
  | 96 => ⟨S16x32x32x3x10x255, .f32⟩
  | 97 => ⟨S16x32x32x3x10x255, .f32⟩
  | 98 => ⟨S16x32x32x3x10x255, .f32⟩
  | 99 => ⟨S16x32x32x3x10x255, .f32⟩
  | 100 => ⟨S16x32x32x3x10x255, .f32⟩
  | 101 => ⟨S_, .f32⟩
  | 102 => ⟨S16x32x32x3x10x255, .f32⟩
  | 103 => ⟨S16x32x32x3x10x255, .f32⟩
  | 104 => ⟨S_, .f32⟩
  | 105 => ⟨S16x32x32x3x10x255, .f32⟩
  | 106 => ⟨S16x32x32x3x10x255, .f32⟩
  | 107 => ⟨S16x32x32x3x10x254, .f32⟩
  | 108 => ⟨S16x32x32x3x10x254, .f32⟩
  | 109 => ⟨S16x32x32x3x10x254, .f32⟩
  | 110 => ⟨S1, .f32⟩
  | 111 => ⟨S_, .f32⟩
  | 112 => ⟨S16x32x32x3x10, .f32⟩
  | 113 => ⟨S16x32x32x3x10, .f32⟩
  | 114 => ⟨S16x32x32x3x10, .f32⟩
  | 115 => ⟨S1, .f32⟩
  | 116 => ⟨S_, .f32⟩
  | 117 => ⟨S16x32x32x3x10, .f32⟩
  | 118 => ⟨S16x32x32x3x10, .f32⟩
  | 119 => ⟨S16x32x32x3x10, .f32⟩
  | 120 => ⟨S_, .f32⟩
  | 121 => ⟨S16x32x32x3x10, .f32⟩
  | 122 => ⟨S16x32x32x3x10, .f32⟩
  | 123 => ⟨S16x32x32x3x10, .f32⟩
  | 124 => ⟨S16x32x32x3x10, .f32⟩
  | 125 => ⟨S16x32x32x3x10, .i1⟩
  | 126 => ⟨S16x32x32x3x10, .f32⟩
  | 127 => ⟨S16x32x32x3x10, .f32⟩
  | _ => ⟨S16x3x32x32, .f32⟩

abbrev hbmTy0_4 (i : Nat) : BufTy := match i % 128 with
  | 0 => ⟨S16x32x32x3x10, .f32⟩
  | 1 => ⟨S16x32x32x3x10, .f32⟩
  | 2 => ⟨S16x32x32x3x10, .f32⟩
  | 3 => ⟨S16x32x32x3x10, .f32⟩
  | 4 => ⟨S16x32x32x3x10, .f32⟩
  | 5 => ⟨S16x32x32x3x10, .f32⟩
  | 6 => ⟨S16x32x32x3x10, .f32⟩
  | 7 => ⟨S_, .f32⟩
  | 8 => ⟨S16x32x32x3x10, .f32⟩
  | 9 => ⟨S16x32x32x3x10, .f32⟩
  | 10 => ⟨S16x32x32x3x10, .f32⟩
  | 11 => ⟨S16x32x32x3x10, .f32⟩
  | 12 => ⟨S16x32x32x3x10, .i1⟩
  | 13 => ⟨S16x32x32x3x10, .f32⟩
  | 14 => ⟨S16x32x32x3x10, .f32⟩
  | 15 => ⟨S16x32x32x3x10, .f32⟩
  | 16 => ⟨S16x32x32x3x10, .f32⟩
  | 17 => ⟨S16x32x32x3x10, .f32⟩
  | 18 => ⟨S16x32x32x3x10, .f32⟩
  | 19 => ⟨S16x32x32x3x10, .f32⟩
  | 20 => ⟨S16x32x32x3x10, .f32⟩
  | 21 => ⟨S16x32x32x3x10, .f32⟩
  | 22 => ⟨S1x1x1x1x1x254, .f32⟩
  | 23 => ⟨S16x32x32x3x10x254, .f32⟩
  | 24 => ⟨S16x32x32x3x10x254, .f32⟩
  | 25 => ⟨S16x32x32x3x10x254, .f32⟩
  | 26 => ⟨S16x32x32x3x10x254, .f32⟩
  | 27 => ⟨S16x32x32x3x10x254, .f32⟩
  | 28 => ⟨S16x32x32x3x10x1, .f32⟩
  | 29 => ⟨S16x32x32x3x10x254, .f32⟩
  | 30 => ⟨S16x32x32x3x10x254, .f32⟩
  | 31 => ⟨S_, .f32⟩
  | 32 => ⟨S16x32x32x3x10x254, .f32⟩
  | 33 => ⟨S16x32x32x3x10x254, .f32⟩
  | 34 => ⟨S16x32x32x3x10x254, .f32⟩
  | 35 => ⟨S16x32x32x3x10x254, .f32⟩
  | 36 => ⟨S16x32x32x3x10x254, .i1⟩
  | 37 => ⟨S16x32x32x3x10x254, .f32⟩
  | 38 => ⟨S16x32x32x3x10x254, .f32⟩
  | 39 => ⟨S16x32x32x3x10x254, .f32⟩
  | 40 => ⟨S16x32x32x3x10x254, .f32⟩
  | 41 => ⟨S16x32x32x3x10x254, .f32⟩
  | 42 => ⟨S16x32x32x3x10x254, .f32⟩
  | 43 => ⟨S16x32x32x3x10x254, .f32⟩
  | 44 => ⟨S16x32x32x3x10x254, .f32⟩
  | 45 => ⟨S_, .f32⟩
  | 46 => ⟨S16x32x32x3x10x254, .f32⟩
  | 47 => ⟨S16x32x32x3x10x254, .f32⟩
  | 48 => ⟨S16x32x32x3x10x254, .f32⟩
  | 49 => ⟨S_, .f32⟩
  | 50 => ⟨S16x32x32x3x10x254, .f32⟩
  | 51 => ⟨S16x32x32x3x10x254, .i1⟩
  | 52 => ⟨S_, .f32⟩
  | 53 => ⟨S16x32x32x3x10x254, .f32⟩
  | 54 => ⟨S16x32x32x3x10x254, .f32⟩
  | 55 => ⟨S16x32x32x3x10x254, .f32⟩
  | 56 => ⟨S_, .f32⟩
  | 57 => ⟨S_, .f32⟩
  | 58 => ⟨S16x32x32x3x10x254, .f32⟩
  | 59 => ⟨S16x32x32x3x10x254, .f32⟩
  | 60 => ⟨S16x32x32x3x10x254, .f32⟩
  | 61 => ⟨S16x32x32x3x10x1, .f32⟩
  | 62 => ⟨S16x32x32x3x10x1, .f32⟩
  | 63 => ⟨S16x32x32x3x10x256, .f32⟩
  | 64 => ⟨S16x32x32x1x10x1, .f32⟩
  | 65 => ⟨S16x32x32x3x10x256, .f32⟩
  | 66 => ⟨S16x32x32x3x10x256, .f32⟩
  | 67 => ⟨S16x32x32x3x10x256, .f32⟩
  | 68 => ⟨S_, .f32⟩
  | 69 => ⟨S16x32x32x3x256, .f32⟩
  | 70 => ⟨S16x32x32x3x256, .f32⟩
  | 71 => ⟨S16x32x32x3x256, .f32⟩
  | 72 => ⟨S_, .f32⟩
  | 73 => ⟨S16x32x32x3, .f32⟩
  | 74 => ⟨S16x32x32x3x1, .f32⟩
  | 75 => ⟨S16x32x32x3x256, .f32⟩
  | 76 => ⟨S16x32x32x3x256, .i1⟩
  | 77 => ⟨S_, .i32⟩
  | 78 => ⟨S_, .i32⟩
  | 79 => ⟨S16x32x32x3x256, .i32⟩
  | 80 => ⟨S16x32x32x3x256, .i32⟩
  | 81 => ⟨S16x32x32x3x256, .i32⟩
  | 82 => ⟨S_, .i32⟩
  | 83 => ⟨S16x32x32x3, .i32⟩
  | 84 => ⟨S16x32x32x3, .f32⟩
  | 85 => ⟨S_, .f32⟩
  | 86 => ⟨S16x32x32x3, .f32⟩
  | 87 => ⟨S16x32x32x3, .f32⟩
  | 88 => ⟨S_, .f32⟩
  | 89 => ⟨S16x32x32x3, .f32⟩
  | 90 => ⟨S16x32x32x3, .f32⟩
  | 91 => ⟨S16x32x32x1, .f32⟩
  | 92 => ⟨S16x32x32, .f32⟩
  | 93 => ⟨S16x32x32x1, .f32⟩
  | 94 => ⟨S16x32x32, .f32⟩
  | 95 => ⟨S16x32x32x1, .f32⟩
  | 96 => ⟨S16x32x32, .f32⟩
  | 97 => ⟨S16x32x32x1, .f32⟩
  | 98 => ⟨S16x32x32x1, .f32⟩
  | 99 => ⟨S16x32x32x1, .f32⟩
  | 100 => ⟨S16x32x32x3, .f32⟩
  | 101 => ⟨S16x3x32x32, .f32⟩
  | _ => ⟨S16x3x32x32, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S16x3x32x32, .f32⟩

abbrev bufTy : (tb : Table) → Fin (tcTables nBuf tb) → BufTy
  | .hbm, ⟨i, _⟩ => hbmTy i
  | _, _ => ⟨S16x3x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_c_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_cst_2 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_c_3 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_cst_4 : Ref sig .tc := ⟨.hbm, 43, rfl⟩
abbrev main_v34 : Ref sig .tc := ⟨.hbm, 44, rfl⟩
abbrev main_v35 : Ref sig .tc := ⟨.hbm, 45, rfl⟩
abbrev main_cst_5 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_c_6 : Ref sig .tc := ⟨.hbm, 50, rfl⟩
abbrev main_v39 : Ref sig .tc := ⟨.hbm, 51, rfl⟩
abbrev main_v40 : Ref sig .tc := ⟨.hbm, 52, rfl⟩
abbrev main_c_7 : Ref sig .tc := ⟨.hbm, 53, rfl⟩
abbrev main_v41 : Ref sig .tc := ⟨.hbm, 54, rfl⟩
abbrev main_v42 : Ref sig .tc := ⟨.hbm, 55, rfl⟩
abbrev main_c_8 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_cst_9 : Ref sig .tc := ⟨.hbm, 60, rfl⟩
abbrev main_v46 : Ref sig .tc := ⟨.hbm, 61, rfl⟩
abbrev main_v47 : Ref sig .tc := ⟨.hbm, 62, rfl⟩
abbrev main_cst_10 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_call0_cst : Ref sig .tc := ⟨.hbm, 69, rfl⟩
abbrev main_call0_v0 : Ref sig .tc := ⟨.hbm, 70, rfl⟩
abbrev main_call0_cst_0 : Ref sig .tc := ⟨.hbm, 71, rfl⟩
abbrev main_call0_v1 : Ref sig .tc := ⟨.hbm, 72, rfl⟩
abbrev main_call0_v2 : Ref sig .tc := ⟨.hbm, 73, rfl⟩
abbrev main_call0_v3 : Ref sig .tc := ⟨.hbm, 74, rfl⟩
abbrev main_call0_v4 : Ref sig .tc := ⟨.hbm, 75, rfl⟩
abbrev main_call0_v5 : Ref sig .tc := ⟨.hbm, 76, rfl⟩
abbrev main_call0_v6 : Ref sig .tc := ⟨.hbm, 77, rfl⟩
abbrev main_call0_cst_1 : Ref sig .tc := ⟨.hbm, 78, rfl⟩
abbrev main_call0_v7 : Ref sig .tc := ⟨.hbm, 79, rfl⟩
abbrev main_call0_v8 : Ref sig .tc := ⟨.hbm, 80, rfl⟩
abbrev main_call0_v9 : Ref sig .tc := ⟨.hbm, 81, rfl⟩
abbrev main_call0_v10 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_cst_11 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_cst_12 : Ref sig .tc := ⟨.hbm, 137, rfl⟩
abbrev main_v106 : Ref sig .tc := ⟨.hbm, 138, rfl⟩
abbrev main_v107 : Ref sig .tc := ⟨.hbm, 139, rfl⟩
abbrev main_cst_13 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩
abbrev main_call1_cst : Ref sig .tc := ⟨.hbm, 156, rfl⟩
abbrev main_call1_v0 : Ref sig .tc := ⟨.hbm, 157, rfl⟩
abbrev main_call1_v1 : Ref sig .tc := ⟨.hbm, 158, rfl⟩
abbrev main_call1_v2 : Ref sig .tc := ⟨.hbm, 159, rfl⟩
abbrev main_call1_v3 : Ref sig .tc := ⟨.hbm, 160, rfl⟩
abbrev main_call1_v4 : Ref sig .tc := ⟨.hbm, 161, rfl⟩
abbrev main_call1_v5 : Ref sig .tc := ⟨.hbm, 162, rfl⟩
abbrev main_call1_v6 : Ref sig .tc := ⟨.hbm, 163, rfl⟩
abbrev main_call1_v7 : Ref sig .tc := ⟨.hbm, 164, rfl⟩
abbrev main_call1_v8 : Ref sig .tc := ⟨.hbm, 165, rfl⟩
abbrev main_call1_v9 : Ref sig .tc := ⟨.hbm, 166, rfl⟩
abbrev main_call1_v10 : Ref sig .tc := ⟨.hbm, 167, rfl⟩
abbrev main_call1_v11 : Ref sig .tc := ⟨.hbm, 168, rfl⟩
abbrev main_v123 : Ref sig .tc := ⟨.hbm, 169, rfl⟩
abbrev main_v124 : Ref sig .tc := ⟨.hbm, 170, rfl⟩
abbrev main_call2_cst : Ref sig .tc := ⟨.hbm, 171, rfl⟩
abbrev main_call2_v0 : Ref sig .tc := ⟨.hbm, 172, rfl⟩
abbrev main_call2_v1 : Ref sig .tc := ⟨.hbm, 173, rfl⟩
abbrev main_call2_v2 : Ref sig .tc := ⟨.hbm, 174, rfl⟩
abbrev main_call2_v3 : Ref sig .tc := ⟨.hbm, 175, rfl⟩
abbrev main_call2_v4 : Ref sig .tc := ⟨.hbm, 176, rfl⟩
abbrev main_call2_v5 : Ref sig .tc := ⟨.hbm, 177, rfl⟩
abbrev main_call2_v6 : Ref sig .tc := ⟨.hbm, 178, rfl⟩
abbrev main_call2_v7 : Ref sig .tc := ⟨.hbm, 179, rfl⟩
abbrev main_call2_v8 : Ref sig .tc := ⟨.hbm, 180, rfl⟩
abbrev main_call2_v9 : Ref sig .tc := ⟨.hbm, 181, rfl⟩
abbrev main_call2_v10 : Ref sig .tc := ⟨.hbm, 182, rfl⟩
abbrev main_call2_v11 : Ref sig .tc := ⟨.hbm, 183, rfl⟩
abbrev main_v125 : Ref sig .tc := ⟨.hbm, 184, rfl⟩
abbrev main_v126 : Ref sig .tc := ⟨.hbm, 185, rfl⟩
abbrev main_v127 : Ref sig .tc := ⟨.hbm, 186, rfl⟩
abbrev main_v128 : Ref sig .tc := ⟨.hbm, 187, rfl⟩
abbrev main_v129 : Ref sig .tc := ⟨.hbm, 188, rfl⟩
abbrev main_v130 : Ref sig .tc := ⟨.hbm, 189, rfl⟩
abbrev main_v131 : Ref sig .tc := ⟨.hbm, 190, rfl⟩
abbrev main_v132 : Ref sig .tc := ⟨.hbm, 191, rfl⟩
abbrev main_v133 : Ref sig .tc := ⟨.hbm, 192, rfl⟩
abbrev main_v134 : Ref sig .tc := ⟨.hbm, 193, rfl⟩
abbrev main_v135 : Ref sig .tc := ⟨.hbm, 194, rfl⟩
abbrev main_call3_cst : Ref sig .tc := ⟨.hbm, 195, rfl⟩
abbrev main_call3_v0 : Ref sig .tc := ⟨.hbm, 196, rfl⟩
abbrev main_call3_v1 : Ref sig .tc := ⟨.hbm, 197, rfl⟩
abbrev main_call3_v2 : Ref sig .tc := ⟨.hbm, 198, rfl⟩
abbrev main_call3_v3 : Ref sig .tc := ⟨.hbm, 199, rfl⟩
abbrev main_call3_v4 : Ref sig .tc := ⟨.hbm, 200, rfl⟩
abbrev main_call3_v5 : Ref sig .tc := ⟨.hbm, 201, rfl⟩
abbrev main_call3_v6 : Ref sig .tc := ⟨.hbm, 202, rfl⟩
abbrev main_call3_v7 : Ref sig .tc := ⟨.hbm, 203, rfl⟩
abbrev main_call3_v8 : Ref sig .tc := ⟨.hbm, 204, rfl⟩
abbrev main_call3_v9 : Ref sig .tc := ⟨.hbm, 205, rfl⟩
abbrev main_call3_v10 : Ref sig .tc := ⟨.hbm, 206, rfl⟩
abbrev main_call3_v11 : Ref sig .tc := ⟨.hbm, 207, rfl⟩
abbrev main_v136 : Ref sig .tc := ⟨.hbm, 208, rfl⟩
abbrev main_cst_14 : Ref sig .tc := ⟨.hbm, 209, rfl⟩
abbrev main_v137 : Ref sig .tc := ⟨.hbm, 210, rfl⟩
abbrev main_v138 : Ref sig .tc := ⟨.hbm, 211, rfl⟩
abbrev main_v139 : Ref sig .tc := ⟨.hbm, 212, rfl⟩
abbrev main_cst_15 : Ref sig .tc := ⟨.hbm, 213, rfl⟩
abbrev main_v140 : Ref sig .tc := ⟨.hbm, 214, rfl⟩
abbrev main_v141 : Ref sig .tc := ⟨.hbm, 215, rfl⟩
abbrev main_cst_16 : Ref sig .tc := ⟨.hbm, 216, rfl⟩
abbrev main_v142 : Ref sig .tc := ⟨.hbm, 217, rfl⟩
abbrev main_v143 : Ref sig .tc := ⟨.hbm, 218, rfl⟩
abbrev main_v144 : Ref sig .tc := ⟨.hbm, 219, rfl⟩
abbrev main_cst_17 : Ref sig .tc := ⟨.hbm, 220, rfl⟩
abbrev main_v145 : Ref sig .tc := ⟨.hbm, 221, rfl⟩
abbrev main_v146 : Ref sig .tc := ⟨.hbm, 222, rfl⟩
abbrev main_v147 : Ref sig .tc := ⟨.hbm, 223, rfl⟩
abbrev main_v148 : Ref sig .tc := ⟨.hbm, 224, rfl⟩
abbrev main_v149 : Ref sig .tc := ⟨.hbm, 225, rfl⟩
abbrev main_v150 : Ref sig .tc := ⟨.hbm, 226, rfl⟩
abbrev main_v151 : Ref sig .tc := ⟨.hbm, 227, rfl⟩
abbrev main_v152 : Ref sig .tc := ⟨.hbm, 228, rfl⟩
abbrev main_v153 : Ref sig .tc := ⟨.hbm, 229, rfl⟩
abbrev main_v154 : Ref sig .tc := ⟨.hbm, 230, rfl⟩
abbrev main_v155 : Ref sig .tc := ⟨.hbm, 231, rfl⟩
abbrev main_cst_18 : Ref sig .tc := ⟨.hbm, 232, rfl⟩
abbrev main_v156 : Ref sig .tc := ⟨.hbm, 233, rfl⟩
abbrev main_v157 : Ref sig .tc := ⟨.hbm, 234, rfl⟩
abbrev main_v158 : Ref sig .tc := ⟨.hbm, 235, rfl⟩
abbrev main_cst_19 : Ref sig .tc := ⟨.hbm, 236, rfl⟩
abbrev main_v159 : Ref sig .tc := ⟨.hbm, 237, rfl⟩
abbrev main_v160 : Ref sig .tc := ⟨.hbm, 238, rfl⟩
abbrev main_v161 : Ref sig .tc := ⟨.hbm, 239, rfl⟩
abbrev main_v162 : Ref sig .tc := ⟨.hbm, 240, rfl⟩
abbrev main_c_20 : Ref sig .tc := ⟨.hbm, 241, rfl⟩
abbrev main_call5_v0 : Ref sig .tc := ⟨.hbm, 242, rfl⟩
abbrev main_call5_v1 : Ref sig .tc := ⟨.hbm, 243, rfl⟩
abbrev main_call5_v2 : Ref sig .tc := ⟨.hbm, 244, rfl⟩
abbrev main_v163 : Ref sig .tc := ⟨.hbm, 245, rfl⟩
abbrev main_c_21 : Ref sig .tc := ⟨.hbm, 246, rfl⟩
abbrev main_v164 : Ref sig .tc := ⟨.hbm, 247, rfl⟩
abbrev main_v165 : Ref sig .tc := ⟨.hbm, 248, rfl⟩
abbrev main_cst_22 : Ref sig .tc := ⟨.hbm, 249, rfl⟩
abbrev main_v166 : Ref sig .tc := ⟨.hbm, 250, rfl⟩
abbrev main_v167 : Ref sig .tc := ⟨.hbm, 251, rfl⟩
abbrev main_cst_23 : Ref sig .tc := ⟨.hbm, 252, rfl⟩
abbrev main_v168 : Ref sig .tc := ⟨.hbm, 253, rfl⟩
abbrev main_v169 : Ref sig .tc := ⟨.hbm, 254, rfl⟩
abbrev main_v170 : Ref sig .tc := ⟨.hbm, 255, rfl⟩
abbrev main_v171 : Ref sig .tc := ⟨.hbm, 256, rfl⟩
abbrev main_v172 : Ref sig .tc := ⟨.hbm, 257, rfl⟩
abbrev main_v173 : Ref sig .tc := ⟨.hbm, 258, rfl⟩
abbrev main_v174 : Ref sig .tc := ⟨.hbm, 259, rfl⟩
abbrev main_v175 : Ref sig .tc := ⟨.hbm, 260, rfl⟩
abbrev main_v176 : Ref sig .tc := ⟨.hbm, 261, rfl⟩
abbrev main_v177 : Ref sig .tc := ⟨.hbm, 262, rfl⟩
abbrev main_v178 : Ref sig .tc := ⟨.hbm, 263, rfl⟩
abbrev main_v179 : Ref sig .tc := ⟨.hbm, 264, rfl⟩
abbrev main_v180 : Ref sig .tc := ⟨.hbm, 265, rfl⟩
abbrev main_v181 : Ref sig .tc := ⟨.hbm, 266, rfl⟩
abbrev main_v182 : Ref sig .tc := ⟨.hbm, 267, rfl⟩
abbrev main_v183 : Ref sig .tc := ⟨.hbm, 268, rfl⟩
abbrev main_v184 : Ref sig .tc := ⟨.hbm, 269, rfl⟩
abbrev main_v185 : Ref sig .tc := ⟨.hbm, 270, rfl⟩
abbrev main_v186 : Ref sig .tc := ⟨.hbm, 271, rfl⟩
abbrev main_v187 : Ref sig .tc := ⟨.hbm, 272, rfl⟩
abbrev main_v188 : Ref sig .tc := ⟨.hbm, 273, rfl⟩
abbrev main_v189 : Ref sig .tc := ⟨.hbm, 274, rfl⟩
abbrev main_v190 : Ref sig .tc := ⟨.hbm, 275, rfl⟩
abbrev main_v191 : Ref sig .tc := ⟨.hbm, 276, rfl⟩
abbrev main_v192 : Ref sig .tc := ⟨.hbm, 277, rfl⟩
abbrev main_v193 : Ref sig .tc := ⟨.hbm, 278, rfl⟩
abbrev main_v194 : Ref sig .tc := ⟨.hbm, 279, rfl⟩
abbrev main_v195 : Ref sig .tc := ⟨.hbm, 280, rfl⟩
abbrev main_v196 : Ref sig .tc := ⟨.hbm, 281, rfl⟩
abbrev main_v197 : Ref sig .tc := ⟨.hbm, 282, rfl⟩
abbrev main_v198 : Ref sig .tc := ⟨.hbm, 283, rfl⟩
abbrev main_v199 : Ref sig .tc := ⟨.hbm, 284, rfl⟩
abbrev main_v200 : Ref sig .tc := ⟨.hbm, 285, rfl⟩
abbrev main_v201 : Ref sig .tc := ⟨.hbm, 286, rfl⟩
abbrev main_v202 : Ref sig .tc := ⟨.hbm, 287, rfl⟩
abbrev main_v203 : Ref sig .tc := ⟨.hbm, 288, rfl⟩
abbrev main_v204 : Ref sig .tc := ⟨.hbm, 289, rfl⟩
abbrev main_v205 : Ref sig .tc := ⟨.hbm, 290, rfl⟩
abbrev main_v206 : Ref sig .tc := ⟨.hbm, 291, rfl⟩
abbrev main_v207 : Ref sig .tc := ⟨.hbm, 292, rfl⟩
abbrev main_v208 : Ref sig .tc := ⟨.hbm, 293, rfl⟩
abbrev main_v209 : Ref sig .tc := ⟨.hbm, 294, rfl⟩
abbrev main_v210 : Ref sig .tc := ⟨.hbm, 295, rfl⟩
abbrev main_v211 : Ref sig .tc := ⟨.hbm, 296, rfl⟩
abbrev main_v212 : Ref sig .tc := ⟨.hbm, 297, rfl⟩
abbrev main_v213 : Ref sig .tc := ⟨.hbm, 298, rfl⟩
abbrev main_v214 : Ref sig .tc := ⟨.hbm, 299, rfl⟩
abbrev main_v215 : Ref sig .tc := ⟨.hbm, 300, rfl⟩
abbrev main_v216 : Ref sig .tc := ⟨.hbm, 301, rfl⟩
abbrev main_v217 : Ref sig .tc := ⟨.hbm, 302, rfl⟩
abbrev main_v218 : Ref sig .tc := ⟨.hbm, 303, rfl⟩
abbrev main_v219 : Ref sig .tc := ⟨.hbm, 304, rfl⟩
abbrev main_v220 : Ref sig .tc := ⟨.hbm, 305, rfl⟩
abbrev main_v221 : Ref sig .tc := ⟨.hbm, 306, rfl⟩
abbrev main_v222 : Ref sig .tc := ⟨.hbm, 307, rfl⟩
abbrev main_v223 : Ref sig .tc := ⟨.hbm, 308, rfl⟩
abbrev main_v224 : Ref sig .tc := ⟨.hbm, 309, rfl⟩
abbrev main_v225 : Ref sig .tc := ⟨.hbm, 310, rfl⟩
abbrev main_cst_24 : Ref sig .tc := ⟨.hbm, 311, rfl⟩
abbrev main_v226 : Ref sig .tc := ⟨.hbm, 312, rfl⟩
abbrev main_v227 : Ref sig .tc := ⟨.hbm, 313, rfl⟩
abbrev main_cst_25 : Ref sig .tc := ⟨.hbm, 314, rfl⟩
abbrev main_v228 : Ref sig .tc := ⟨.hbm, 315, rfl⟩
abbrev main_v229 : Ref sig .tc := ⟨.hbm, 316, rfl⟩
abbrev main_v230 : Ref sig .tc := ⟨.hbm, 317, rfl⟩
abbrev main_v231 : Ref sig .tc := ⟨.hbm, 318, rfl⟩
abbrev main_v232 : Ref sig .tc := ⟨.hbm, 319, rfl⟩
abbrev main_v233 : Ref sig .tc := ⟨.hbm, 320, rfl⟩
abbrev main_v234 : Ref sig .tc := ⟨.hbm, 321, rfl⟩
abbrev main_v235 : Ref sig .tc := ⟨.hbm, 322, rfl⟩
abbrev main_v236 : Ref sig .tc := ⟨.hbm, 323, rfl⟩
abbrev main_v237 : Ref sig .tc := ⟨.hbm, 324, rfl⟩
abbrev main_v238 : Ref sig .tc := ⟨.hbm, 325, rfl⟩
abbrev main_v239 : Ref sig .tc := ⟨.hbm, 326, rfl⟩
abbrev main_v240 : Ref sig .tc := ⟨.hbm, 327, rfl⟩
abbrev main_v241 : Ref sig .tc := ⟨.hbm, 328, rfl⟩
abbrev main_v242 : Ref sig .tc := ⟨.hbm, 329, rfl⟩
abbrev main_call6_cst : Ref sig .tc := ⟨.hbm, 330, rfl⟩
abbrev main_call6_v0 : Ref sig .tc := ⟨.hbm, 331, rfl⟩
abbrev main_call6_v1 : Ref sig .tc := ⟨.hbm, 332, rfl⟩
abbrev main_call6_v2 : Ref sig .tc := ⟨.hbm, 333, rfl⟩
abbrev main_call6_v3 : Ref sig .tc := ⟨.hbm, 334, rfl⟩
abbrev main_call6_v4 : Ref sig .tc := ⟨.hbm, 335, rfl⟩
abbrev main_call6_v5 : Ref sig .tc := ⟨.hbm, 336, rfl⟩
abbrev main_call6_v6 : Ref sig .tc := ⟨.hbm, 337, rfl⟩
abbrev main_call6_v7 : Ref sig .tc := ⟨.hbm, 338, rfl⟩
abbrev main_call6_v8 : Ref sig .tc := ⟨.hbm, 339, rfl⟩
abbrev main_call6_v9 : Ref sig .tc := ⟨.hbm, 340, rfl⟩
abbrev main_call6_v10 : Ref sig .tc := ⟨.hbm, 341, rfl⟩
abbrev main_call6_v11 : Ref sig .tc := ⟨.hbm, 342, rfl⟩
abbrev main_v243 : Ref sig .tc := ⟨.hbm, 343, rfl⟩
abbrev main_v244 : Ref sig .tc := ⟨.hbm, 344, rfl⟩
abbrev main_call7_cst : Ref sig .tc := ⟨.hbm, 345, rfl⟩
abbrev main_call7_v0 : Ref sig .tc := ⟨.hbm, 346, rfl⟩
abbrev main_call7_v1 : Ref sig .tc := ⟨.hbm, 347, rfl⟩
abbrev main_call7_v2 : Ref sig .tc := ⟨.hbm, 348, rfl⟩
abbrev main_call7_v3 : Ref sig .tc := ⟨.hbm, 349, rfl⟩
abbrev main_call7_v4 : Ref sig .tc := ⟨.hbm, 350, rfl⟩
abbrev main_call7_v5 : Ref sig .tc := ⟨.hbm, 351, rfl⟩
abbrev main_call7_v6 : Ref sig .tc := ⟨.hbm, 352, rfl⟩
abbrev main_call7_v7 : Ref sig .tc := ⟨.hbm, 353, rfl⟩
abbrev main_call7_v8 : Ref sig .tc := ⟨.hbm, 354, rfl⟩
abbrev main_call7_v9 : Ref sig .tc := ⟨.hbm, 355, rfl⟩
abbrev main_call7_v10 : Ref sig .tc := ⟨.hbm, 356, rfl⟩
abbrev main_call7_v11 : Ref sig .tc := ⟨.hbm, 357, rfl⟩
abbrev main_v245 : Ref sig .tc := ⟨.hbm, 358, rfl⟩
abbrev main_v246 : Ref sig .tc := ⟨.hbm, 359, rfl⟩
abbrev main_v247 : Ref sig .tc := ⟨.hbm, 360, rfl⟩
abbrev main_v248 : Ref sig .tc := ⟨.hbm, 361, rfl⟩
abbrev main_v249 : Ref sig .tc := ⟨.hbm, 362, rfl⟩
abbrev main_v250 : Ref sig .tc := ⟨.hbm, 363, rfl⟩
abbrev main_v251 : Ref sig .tc := ⟨.hbm, 364, rfl⟩
abbrev main_v252 : Ref sig .tc := ⟨.hbm, 365, rfl⟩
abbrev main_v253 : Ref sig .tc := ⟨.hbm, 366, rfl⟩
abbrev main_v254 : Ref sig .tc := ⟨.hbm, 367, rfl⟩
abbrev main_v255 : Ref sig .tc := ⟨.hbm, 368, rfl⟩
abbrev main_call8_cst : Ref sig .tc := ⟨.hbm, 369, rfl⟩
abbrev main_call8_v0 : Ref sig .tc := ⟨.hbm, 370, rfl⟩
abbrev main_call8_v1 : Ref sig .tc := ⟨.hbm, 371, rfl⟩
abbrev main_call8_v2 : Ref sig .tc := ⟨.hbm, 372, rfl⟩
abbrev main_call8_v3 : Ref sig .tc := ⟨.hbm, 373, rfl⟩
abbrev main_call8_v4 : Ref sig .tc := ⟨.hbm, 374, rfl⟩
abbrev main_call8_v5 : Ref sig .tc := ⟨.hbm, 375, rfl⟩
abbrev main_call8_v6 : Ref sig .tc := ⟨.hbm, 376, rfl⟩
abbrev main_call8_v7 : Ref sig .tc := ⟨.hbm, 377, rfl⟩
abbrev main_call8_v8 : Ref sig .tc := ⟨.hbm, 378, rfl⟩
abbrev main_call8_v9 : Ref sig .tc := ⟨.hbm, 379, rfl⟩
abbrev main_call8_v10 : Ref sig .tc := ⟨.hbm, 380, rfl⟩
abbrev main_call8_v11 : Ref sig .tc := ⟨.hbm, 381, rfl⟩
abbrev main_v256 : Ref sig .tc := ⟨.hbm, 382, rfl⟩
abbrev main_cst_26 : Ref sig .tc := ⟨.hbm, 383, rfl⟩
abbrev main_v257 : Ref sig .tc := ⟨.hbm, 384, rfl⟩
abbrev main_v258 : Ref sig .tc := ⟨.hbm, 385, rfl⟩
abbrev main_v259 : Ref sig .tc := ⟨.hbm, 386, rfl⟩
abbrev main_cst_27 : Ref sig .tc := ⟨.hbm, 387, rfl⟩
abbrev main_v260 : Ref sig .tc := ⟨.hbm, 388, rfl⟩
abbrev main_v261 : Ref sig .tc := ⟨.hbm, 389, rfl⟩
abbrev main_cst_28 : Ref sig .tc := ⟨.hbm, 390, rfl⟩
abbrev main_v262 : Ref sig .tc := ⟨.hbm, 391, rfl⟩
abbrev main_v263 : Ref sig .tc := ⟨.hbm, 392, rfl⟩
abbrev main_v264 : Ref sig .tc := ⟨.hbm, 393, rfl⟩
abbrev main_cst_29 : Ref sig .tc := ⟨.hbm, 394, rfl⟩
abbrev main_v265 : Ref sig .tc := ⟨.hbm, 395, rfl⟩
abbrev main_v266 : Ref sig .tc := ⟨.hbm, 396, rfl⟩
abbrev main_v267 : Ref sig .tc := ⟨.hbm, 397, rfl⟩
abbrev main_v268 : Ref sig .tc := ⟨.hbm, 398, rfl⟩
abbrev main_v269 : Ref sig .tc := ⟨.hbm, 399, rfl⟩
abbrev main_v270 : Ref sig .tc := ⟨.hbm, 400, rfl⟩
abbrev main_v271 : Ref sig .tc := ⟨.hbm, 401, rfl⟩
abbrev main_v272 : Ref sig .tc := ⟨.hbm, 402, rfl⟩
abbrev main_v273 : Ref sig .tc := ⟨.hbm, 403, rfl⟩
abbrev main_v274 : Ref sig .tc := ⟨.hbm, 404, rfl⟩
abbrev main_v275 : Ref sig .tc := ⟨.hbm, 405, rfl⟩
abbrev main_cst_30 : Ref sig .tc := ⟨.hbm, 406, rfl⟩
abbrev main_v276 : Ref sig .tc := ⟨.hbm, 407, rfl⟩
abbrev main_v277 : Ref sig .tc := ⟨.hbm, 408, rfl⟩
abbrev main_v278 : Ref sig .tc := ⟨.hbm, 409, rfl⟩
abbrev main_cst_31 : Ref sig .tc := ⟨.hbm, 410, rfl⟩
abbrev main_v279 : Ref sig .tc := ⟨.hbm, 411, rfl⟩
abbrev main_v280 : Ref sig .tc := ⟨.hbm, 412, rfl⟩
abbrev main_v281 : Ref sig .tc := ⟨.hbm, 413, rfl⟩
abbrev main_v282 : Ref sig .tc := ⟨.hbm, 414, rfl⟩
abbrev main_c_32 : Ref sig .tc := ⟨.hbm, 415, rfl⟩
abbrev main_call10_v0 : Ref sig .tc := ⟨.hbm, 416, rfl⟩
abbrev main_call10_v1 : Ref sig .tc := ⟨.hbm, 417, rfl⟩
abbrev main_call10_v2 : Ref sig .tc := ⟨.hbm, 418, rfl⟩
abbrev main_v283 : Ref sig .tc := ⟨.hbm, 419, rfl⟩
abbrev main_c_33 : Ref sig .tc := ⟨.hbm, 420, rfl⟩
abbrev main_v284 : Ref sig .tc := ⟨.hbm, 421, rfl⟩
abbrev main_v285 : Ref sig .tc := ⟨.hbm, 422, rfl⟩
abbrev main_cst_34 : Ref sig .tc := ⟨.hbm, 423, rfl⟩
abbrev main_v286 : Ref sig .tc := ⟨.hbm, 424, rfl⟩
abbrev main_v287 : Ref sig .tc := ⟨.hbm, 425, rfl⟩
abbrev main_cst_35 : Ref sig .tc := ⟨.hbm, 426, rfl⟩
abbrev main_v288 : Ref sig .tc := ⟨.hbm, 427, rfl⟩
abbrev main_v289 : Ref sig .tc := ⟨.hbm, 428, rfl⟩
abbrev main_v290 : Ref sig .tc := ⟨.hbm, 429, rfl⟩
abbrev main_v291 : Ref sig .tc := ⟨.hbm, 430, rfl⟩
abbrev main_v292 : Ref sig .tc := ⟨.hbm, 431, rfl⟩
abbrev main_v293 : Ref sig .tc := ⟨.hbm, 432, rfl⟩
abbrev main_v294 : Ref sig .tc := ⟨.hbm, 433, rfl⟩
abbrev main_v295 : Ref sig .tc := ⟨.hbm, 434, rfl⟩
abbrev main_v296 : Ref sig .tc := ⟨.hbm, 435, rfl⟩
abbrev main_v297 : Ref sig .tc := ⟨.hbm, 436, rfl⟩
abbrev main_v298 : Ref sig .tc := ⟨.hbm, 437, rfl⟩
abbrev main_v299 : Ref sig .tc := ⟨.hbm, 438, rfl⟩
abbrev main_v300 : Ref sig .tc := ⟨.hbm, 439, rfl⟩
abbrev main_v301 : Ref sig .tc := ⟨.hbm, 440, rfl⟩
abbrev main_v302 : Ref sig .tc := ⟨.hbm, 441, rfl⟩
abbrev main_v303 : Ref sig .tc := ⟨.hbm, 442, rfl⟩
abbrev main_v304 : Ref sig .tc := ⟨.hbm, 443, rfl⟩
abbrev main_v305 : Ref sig .tc := ⟨.hbm, 444, rfl⟩
abbrev main_v306 : Ref sig .tc := ⟨.hbm, 445, rfl⟩
abbrev main_v307 : Ref sig .tc := ⟨.hbm, 446, rfl⟩
abbrev main_v308 : Ref sig .tc := ⟨.hbm, 447, rfl⟩
abbrev main_v309 : Ref sig .tc := ⟨.hbm, 448, rfl⟩
abbrev main_v310 : Ref sig .tc := ⟨.hbm, 449, rfl⟩
abbrev main_v311 : Ref sig .tc := ⟨.hbm, 450, rfl⟩
abbrev main_v312 : Ref sig .tc := ⟨.hbm, 451, rfl⟩
abbrev main_v313 : Ref sig .tc := ⟨.hbm, 452, rfl⟩
abbrev main_v314 : Ref sig .tc := ⟨.hbm, 453, rfl⟩
abbrev main_v315 : Ref sig .tc := ⟨.hbm, 454, rfl⟩
abbrev main_v316 : Ref sig .tc := ⟨.hbm, 455, rfl⟩
abbrev main_v317 : Ref sig .tc := ⟨.hbm, 456, rfl⟩
abbrev main_v318 : Ref sig .tc := ⟨.hbm, 457, rfl⟩
abbrev main_v319 : Ref sig .tc := ⟨.hbm, 458, rfl⟩
abbrev main_v320 : Ref sig .tc := ⟨.hbm, 459, rfl⟩
abbrev main_v321 : Ref sig .tc := ⟨.hbm, 460, rfl⟩
abbrev main_v322 : Ref sig .tc := ⟨.hbm, 461, rfl⟩
abbrev main_v323 : Ref sig .tc := ⟨.hbm, 462, rfl⟩
abbrev main_v324 : Ref sig .tc := ⟨.hbm, 463, rfl⟩
abbrev main_v325 : Ref sig .tc := ⟨.hbm, 464, rfl⟩
abbrev main_v326 : Ref sig .tc := ⟨.hbm, 465, rfl⟩
abbrev main_v327 : Ref sig .tc := ⟨.hbm, 466, rfl⟩
abbrev main_v328 : Ref sig .tc := ⟨.hbm, 467, rfl⟩
abbrev main_v329 : Ref sig .tc := ⟨.hbm, 468, rfl⟩
abbrev main_v330 : Ref sig .tc := ⟨.hbm, 469, rfl⟩
abbrev main_v331 : Ref sig .tc := ⟨.hbm, 470, rfl⟩
abbrev main_v332 : Ref sig .tc := ⟨.hbm, 471, rfl⟩
abbrev main_v333 : Ref sig .tc := ⟨.hbm, 472, rfl⟩
abbrev main_v334 : Ref sig .tc := ⟨.hbm, 473, rfl⟩
abbrev main_v335 : Ref sig .tc := ⟨.hbm, 474, rfl⟩
abbrev main_v336 : Ref sig .tc := ⟨.hbm, 475, rfl⟩
abbrev main_v337 : Ref sig .tc := ⟨.hbm, 476, rfl⟩
abbrev main_v338 : Ref sig .tc := ⟨.hbm, 477, rfl⟩
abbrev main_v339 : Ref sig .tc := ⟨.hbm, 478, rfl⟩
abbrev main_v340 : Ref sig .tc := ⟨.hbm, 479, rfl⟩
abbrev main_v341 : Ref sig .tc := ⟨.hbm, 480, rfl⟩
abbrev main_v342 : Ref sig .tc := ⟨.hbm, 481, rfl⟩
abbrev main_v343 : Ref sig .tc := ⟨.hbm, 482, rfl⟩
abbrev main_v344 : Ref sig .tc := ⟨.hbm, 483, rfl⟩
abbrev main_v345 : Ref sig .tc := ⟨.hbm, 484, rfl⟩
abbrev main_cst_36 : Ref sig .tc := ⟨.hbm, 485, rfl⟩
abbrev main_v346 : Ref sig .tc := ⟨.hbm, 486, rfl⟩
abbrev main_v347 : Ref sig .tc := ⟨.hbm, 487, rfl⟩
abbrev main_cst_37 : Ref sig .tc := ⟨.hbm, 488, rfl⟩
abbrev main_v348 : Ref sig .tc := ⟨.hbm, 489, rfl⟩
abbrev main_v349 : Ref sig .tc := ⟨.hbm, 490, rfl⟩
abbrev main_v350 : Ref sig .tc := ⟨.hbm, 491, rfl⟩
abbrev main_v351 : Ref sig .tc := ⟨.hbm, 492, rfl⟩
abbrev main_v352 : Ref sig .tc := ⟨.hbm, 493, rfl⟩
abbrev main_v353 : Ref sig .tc := ⟨.hbm, 494, rfl⟩
abbrev main_v354 : Ref sig .tc := ⟨.hbm, 495, rfl⟩
abbrev main_v355 : Ref sig .tc := ⟨.hbm, 496, rfl⟩
abbrev main_v356 : Ref sig .tc := ⟨.hbm, 497, rfl⟩
abbrev main_v357 : Ref sig .tc := ⟨.hbm, 498, rfl⟩
abbrev main_v358 : Ref sig .tc := ⟨.hbm, 499, rfl⟩
abbrev main_v359 : Ref sig .tc := ⟨.hbm, 500, rfl⟩
abbrev main_v360 : Ref sig .tc := ⟨.hbm, 501, rfl⟩
abbrev main_v361 : Ref sig .tc := ⟨.hbm, 502, rfl⟩
abbrev main_v362 : Ref sig .tc := ⟨.hbm, 503, rfl⟩
abbrev main_call11_cst : Ref sig .tc := ⟨.hbm, 504, rfl⟩
abbrev main_call11_v0 : Ref sig .tc := ⟨.hbm, 505, rfl⟩
abbrev main_call11_v1 : Ref sig .tc := ⟨.hbm, 506, rfl⟩
abbrev main_call11_v2 : Ref sig .tc := ⟨.hbm, 507, rfl⟩
abbrev main_call11_v3 : Ref sig .tc := ⟨.hbm, 508, rfl⟩
abbrev main_call11_v4 : Ref sig .tc := ⟨.hbm, 509, rfl⟩
abbrev main_call11_v5 : Ref sig .tc := ⟨.hbm, 510, rfl⟩
abbrev main_call11_v6 : Ref sig .tc := ⟨.hbm, 511, rfl⟩
abbrev main_call11_v7 : Ref sig .tc := ⟨.hbm, 512, rfl⟩
abbrev main_call11_v8 : Ref sig .tc := ⟨.hbm, 513, rfl⟩
abbrev main_call11_v9 : Ref sig .tc := ⟨.hbm, 514, rfl⟩
abbrev main_call11_v10 : Ref sig .tc := ⟨.hbm, 515, rfl⟩
abbrev main_call11_v11 : Ref sig .tc := ⟨.hbm, 516, rfl⟩
abbrev main_v363 : Ref sig .tc := ⟨.hbm, 517, rfl⟩
abbrev main_v364 : Ref sig .tc := ⟨.hbm, 518, rfl⟩
abbrev main_call12_cst : Ref sig .tc := ⟨.hbm, 519, rfl⟩
abbrev main_call12_v0 : Ref sig .tc := ⟨.hbm, 520, rfl⟩
abbrev main_call12_v1 : Ref sig .tc := ⟨.hbm, 521, rfl⟩
abbrev main_call12_v2 : Ref sig .tc := ⟨.hbm, 522, rfl⟩
abbrev main_call12_v3 : Ref sig .tc := ⟨.hbm, 523, rfl⟩
abbrev main_call12_v4 : Ref sig .tc := ⟨.hbm, 524, rfl⟩
abbrev main_call12_v5 : Ref sig .tc := ⟨.hbm, 525, rfl⟩
abbrev main_call12_v6 : Ref sig .tc := ⟨.hbm, 526, rfl⟩
abbrev main_call12_v7 : Ref sig .tc := ⟨.hbm, 527, rfl⟩
abbrev main_call12_v8 : Ref sig .tc := ⟨.hbm, 528, rfl⟩
abbrev main_call12_v9 : Ref sig .tc := ⟨.hbm, 529, rfl⟩
abbrev main_call12_v10 : Ref sig .tc := ⟨.hbm, 530, rfl⟩
abbrev main_call12_v11 : Ref sig .tc := ⟨.hbm, 531, rfl⟩
abbrev main_v365 : Ref sig .tc := ⟨.hbm, 532, rfl⟩
abbrev main_v366 : Ref sig .tc := ⟨.hbm, 533, rfl⟩
abbrev main_v367 : Ref sig .tc := ⟨.hbm, 534, rfl⟩
abbrev main_v368 : Ref sig .tc := ⟨.hbm, 535, rfl⟩
abbrev main_v369 : Ref sig .tc := ⟨.hbm, 536, rfl⟩
abbrev main_v370 : Ref sig .tc := ⟨.hbm, 537, rfl⟩
abbrev main_v371 : Ref sig .tc := ⟨.hbm, 538, rfl⟩
abbrev main_v372 : Ref sig .tc := ⟨.hbm, 539, rfl⟩
abbrev main_v373 : Ref sig .tc := ⟨.hbm, 540, rfl⟩
abbrev main_v374 : Ref sig .tc := ⟨.hbm, 541, rfl⟩
abbrev main_v375 : Ref sig .tc := ⟨.hbm, 542, rfl⟩
abbrev main_call13_cst : Ref sig .tc := ⟨.hbm, 543, rfl⟩
abbrev main_call13_v0 : Ref sig .tc := ⟨.hbm, 544, rfl⟩
abbrev main_call13_v1 : Ref sig .tc := ⟨.hbm, 545, rfl⟩
abbrev main_call13_v2 : Ref sig .tc := ⟨.hbm, 546, rfl⟩
abbrev main_call13_v3 : Ref sig .tc := ⟨.hbm, 547, rfl⟩
abbrev main_call13_v4 : Ref sig .tc := ⟨.hbm, 548, rfl⟩
abbrev main_call13_v5 : Ref sig .tc := ⟨.hbm, 549, rfl⟩
abbrev main_call13_v6 : Ref sig .tc := ⟨.hbm, 550, rfl⟩
abbrev main_call13_v7 : Ref sig .tc := ⟨.hbm, 551, rfl⟩
abbrev main_call13_v8 : Ref sig .tc := ⟨.hbm, 552, rfl⟩
abbrev main_call13_v9 : Ref sig .tc := ⟨.hbm, 553, rfl⟩
abbrev main_call13_v10 : Ref sig .tc := ⟨.hbm, 554, rfl⟩
abbrev main_call13_v11 : Ref sig .tc := ⟨.hbm, 555, rfl⟩
abbrev main_v376 : Ref sig .tc := ⟨.hbm, 556, rfl⟩
abbrev main_cst_38 : Ref sig .tc := ⟨.hbm, 557, rfl⟩
abbrev main_v377 : Ref sig .tc := ⟨.hbm, 558, rfl⟩
abbrev main_v378 : Ref sig .tc := ⟨.hbm, 559, rfl⟩
abbrev main_v379 : Ref sig .tc := ⟨.hbm, 560, rfl⟩
abbrev main_cst_39 : Ref sig .tc := ⟨.hbm, 561, rfl⟩
abbrev main_v380 : Ref sig .tc := ⟨.hbm, 562, rfl⟩
abbrev main_v381 : Ref sig .tc := ⟨.hbm, 563, rfl⟩
abbrev main_cst_40 : Ref sig .tc := ⟨.hbm, 564, rfl⟩
abbrev main_v382 : Ref sig .tc := ⟨.hbm, 565, rfl⟩
abbrev main_v383 : Ref sig .tc := ⟨.hbm, 566, rfl⟩
abbrev main_v384 : Ref sig .tc := ⟨.hbm, 567, rfl⟩
abbrev main_cst_41 : Ref sig .tc := ⟨.hbm, 568, rfl⟩
abbrev main_v385 : Ref sig .tc := ⟨.hbm, 569, rfl⟩
abbrev main_v386 : Ref sig .tc := ⟨.hbm, 570, rfl⟩
abbrev main_v387 : Ref sig .tc := ⟨.hbm, 571, rfl⟩
abbrev main_v388 : Ref sig .tc := ⟨.hbm, 572, rfl⟩
abbrev main_v389 : Ref sig .tc := ⟨.hbm, 573, rfl⟩
abbrev main_v390 : Ref sig .tc := ⟨.hbm, 574, rfl⟩
abbrev main_v391 : Ref sig .tc := ⟨.hbm, 575, rfl⟩
abbrev main_v392 : Ref sig .tc := ⟨.hbm, 576, rfl⟩
abbrev main_v393 : Ref sig .tc := ⟨.hbm, 577, rfl⟩
abbrev main_v394 : Ref sig .tc := ⟨.hbm, 578, rfl⟩
abbrev main_v395 : Ref sig .tc := ⟨.hbm, 579, rfl⟩
abbrev main_cst_42 : Ref sig .tc := ⟨.hbm, 580, rfl⟩
abbrev main_v396 : Ref sig .tc := ⟨.hbm, 581, rfl⟩
abbrev main_v397 : Ref sig .tc := ⟨.hbm, 582, rfl⟩
abbrev main_v398 : Ref sig .tc := ⟨.hbm, 583, rfl⟩
abbrev main_cst_43 : Ref sig .tc := ⟨.hbm, 584, rfl⟩
abbrev main_v399 : Ref sig .tc := ⟨.hbm, 585, rfl⟩
abbrev main_v400 : Ref sig .tc := ⟨.hbm, 586, rfl⟩
abbrev main_v401 : Ref sig .tc := ⟨.hbm, 587, rfl⟩
abbrev main_v402 : Ref sig .tc := ⟨.hbm, 588, rfl⟩
abbrev main_c_44 : Ref sig .tc := ⟨.hbm, 589, rfl⟩
abbrev main_call15_v0 : Ref sig .tc := ⟨.hbm, 590, rfl⟩
abbrev main_call15_v1 : Ref sig .tc := ⟨.hbm, 591, rfl⟩
abbrev main_call15_v2 : Ref sig .tc := ⟨.hbm, 592, rfl⟩
abbrev main_v403 : Ref sig .tc := ⟨.hbm, 593, rfl⟩
abbrev main_c_45 : Ref sig .tc := ⟨.hbm, 594, rfl⟩
abbrev main_v404 : Ref sig .tc := ⟨.hbm, 595, rfl⟩
abbrev main_v405 : Ref sig .tc := ⟨.hbm, 596, rfl⟩
abbrev main_cst_46 : Ref sig .tc := ⟨.hbm, 597, rfl⟩
abbrev main_v406 : Ref sig .tc := ⟨.hbm, 598, rfl⟩
abbrev main_v407 : Ref sig .tc := ⟨.hbm, 599, rfl⟩
abbrev main_cst_47 : Ref sig .tc := ⟨.hbm, 600, rfl⟩
abbrev main_v408 : Ref sig .tc := ⟨.hbm, 601, rfl⟩
abbrev main_v409 : Ref sig .tc := ⟨.hbm, 602, rfl⟩
abbrev main_v410 : Ref sig .tc := ⟨.hbm, 603, rfl⟩
abbrev main_v411 : Ref sig .tc := ⟨.hbm, 604, rfl⟩
abbrev main_v412 : Ref sig .tc := ⟨.hbm, 605, rfl⟩
abbrev main_v413 : Ref sig .tc := ⟨.hbm, 606, rfl⟩
abbrev main_v414 : Ref sig .tc := ⟨.hbm, 607, rfl⟩
abbrev main_v415 : Ref sig .tc := ⟨.hbm, 608, rfl⟩
abbrev main_v416 : Ref sig .tc := ⟨.hbm, 609, rfl⟩
abbrev main_v417 : Ref sig .tc := ⟨.hbm, 610, rfl⟩
abbrev main_v418 : Ref sig .tc := ⟨.hbm, 611, rfl⟩
abbrev main_v419 : Ref sig .tc := ⟨.hbm, 612, rfl⟩
abbrev main_v420 : Ref sig .tc := ⟨.hbm, 613, rfl⟩

abbrev nD : Nat := 1
abbrev τ : Topo := Topo.v7x

variable {F : FTy → Type} [FloatOps F]
-- ==== Proof.Block.lean ====
/- What one launch point writes: the kernel's block of decoded values, written as the few vector functions that
   the kernel's text repeats thirty times, once per channel and component of the mixture. -/
module

public import proofs.«01_k».proof.Proof.Gen.KernelIdeal.Frame

@[expose] public section

noncomputable section

namespace Cert.KernelIdeal.Block

open Idealize.ShloMosaic Idealize.SL.Sem Cert.KernelIdeal Cert.KernelIdeal.Facts Cert.KernelIdeal.Gen

variable {F : FTy → Type} [FloatOps F] [Named F]

/-- Row `i` lies inside the block of mixture parameters. -/
theorem row_inb (i : Fin 100) : ∀ a, (![0, i.val, 0] : Fin 3 → Nat) a + S1x1x1024.size a ≤ S1x100x1024.size a := by
  revert i; decide

/-- Row `c` lies inside the block of pixels. -/
theorem xrow_inb (c : Fin 3) : ∀ a, (![0, c.val, 0] : Fin 3 → Nat) a + S1x1x1024.size a ≤ S1x3x1024.size a := by
  revert c; decide

/-- Row `k` lies inside the array of weights. -/
theorem weight_slices (k : Fin 10) : S10x1024.Slices ![k.val, 0] S1x1024 := by
  revert k; decide

/-- Row `i` of the mixture parameters: one number per pixel of the block. -/
def row (l : Vec F S1x100x1024 .f32) (i : Fin 100) : FVec F S1x1024 .f32 :=
  shapeCast S1x1024 (View.ld l (Rect.unit ![0, i.val, 0] S1x1x1024.size (row_inb i))) shapeCasts_S1x1x1024_S1x1024

/-- Channel `c` of the pixels. -/
def xrow (x : Vec F S1x3x1024 .f32) (c : Fin 3) : FVec F S1x1024 .f32 :=
  shapeCast S1x1024 (View.ld x (Rect.unit ![0, c.val, 0] S1x1x1024.size (xrow_inb c))) shapeCasts_S1x1x1024_S1x1024

/-- The mixture's weights: the softmax of the first ten rows. -/
def weights (l : Vec F S1x100x1024 .f32) : FVec F S10x1024 .f32 :=
  let v3 : FVec F S10x1024 .f32 := shapeCast S10x1024 (View.ld l (Rect.unit ![0, 0, 0] S1x10x1024.size inb_S1x100x1024_S1x10x1024_0_0_0)) shapeCasts_S1x10x1024_S10x1024
  let v5 : FVec F S1x1024 .f32 := shapeCast S1x1024 (multiReduction .maximumf [0] S1024 v3 0xFF800000#32 reduces_S10x1024_S1024 (.inl rfl) rfl) shapeCasts_S1024_S1x1024
  let v8 : FVec F S10x1024 .f32 := exp (subf v3 (broadcastTo S10x1024 v5 broadcasts_S1x1024_S10x1024))
  let v10 : FVec F S1x1024 .f32 := shapeCast S1x1024 (multiReduction .add [0] S1024 v8 0x00000000#32 reduces_S10x1024_S1024 (.inl rfl) rfl) shapeCasts_S1024_S1x1024
  divf v8 (broadcastTo S10x1024 v10 broadcasts_S1x1024_S10x1024)

/-- Weight `k`, as one row. -/
def weight (w : FVec F S10x1024 .f32) (k : Fin 10) : FVec F S1x1024 .f32 :=
  extractStridedSlice S1x1024 ![k.val, 0] w (weight_slices k)

/-- The bin a pixel value lies in. -/
def recovered (x : FVec F S1x1024 .f32) : IVec S1x1024 32 :=
  fptosi 32 (addf (mulf x (broadcast S1x1024 (Scalar.ofBits .f32 0x42FF0000#32))) (broadcast S1x1024 (Scalar.ofBits .f32 0x42FF0000#32)))

/-- The box's lowest bin. -/
def lower (e : Elt F .i32) (x : FVec F S1x1024 .f32) : IVec S1x1024 32 :=
  maxsi (subi (recovered x) (broadcast S1x1024 e)) (broadcast S1x1024 0#32)

/-- The box's highest bin. -/
def upper (e : Elt F .i32) (x : FVec F S1x1024 .f32) : IVec S1x1024 32 :=
  minsi (addi (recovered x) (broadcast S1x1024 e)) (broadcast S1x1024 255#32)

/-- The window's forty bins, from the box's lowest up. -/
def bins (lo : IVec S1x1024 32) : IVec S40x1024 32 :=
  addi (broadcastTo S40x1024 lo broadcasts_S1x1024_S40x1024) (iota .tc S40x1024 32 [0] iota_S40x1024_d0_w32)

/-- Every row alike. -/
def rows (v : FVec F S1x1024 .f32) : FVec F S40x1024 .f32 := broadcastTo S40x1024 v broadcasts_S1x1024_S40x1024

/-- One number everywhere. -/
def all (v : F .f32) : FVec F S40x1024 .f32 := broadcast S40x1024 v

/-- A bin's lower edge. -/
def edge (t : IVec S40x1024 32) : FVec F S40x1024 .f32 :=
  subf (mulf (sitofp .f32 t) (all (Scalar.ofBits .f32 0x3C000000#32))) (all (Scalar.ofBits .f32 0x3F800000#32))

/-- The inverse scale of a component. -/
def invScale (s : FVec F S1x1024 .f32) : FVec F S1x1024 .f32 :=
  exp (subf (broadcast S1x1024 (Scalar.ofBits .f32 0x00000000#32)) (maximumf s (broadcast S1x1024 (Scalar.ofBits .f32 0xC0E00000#32))))

/-- What one component of mean `m` and inverse scale `v` gives each bin: the bin's mass or, where an interior bin's
    mass is small, the density at its middle times the bin's width. -/
def contribution (t : IVec S40x1024 32) (m v : FVec F S1x1024 .f32) : FVec F S40x1024 .f32 :=
  let elo : FVec F S40x1024 .f32 := edge t
  let slo : FVec F S40x1024 .f32 := logistic (mulf (subf elo (rows m)) (rows v))
  let shi : FVec F S40x1024 .f32 := logistic (mulf (subf (addf elo (all (Scalar.ofBits .f32 0x3C000000#32))) (rows m)) (rows v))
  let lo : FVec F S40x1024 .f32 := select (cmpi .eq t (broadcast S40x1024 0#32)) (all (Scalar.ofBits .f32 0x00000000#32)) slo
  let hi : FVec F S40x1024 .f32 := select (cmpi .eq t (broadcast S40x1024 255#32)) (all (Scalar.ofBits .f32 0x3F800000#32)) shi
  let mass : FVec F S40x1024 .f32 := subf hi lo
  let mid : FVec F S40x1024 .f32 := logistic (mulf (subf (addf elo (all (Scalar.ofBits .f32 0x3B800000#32))) (rows m)) (rows v))
  let approx : FVec F S40x1024 .f32 := mulf (mulf (mulf (rows v) mid) (subf (all (Scalar.ofBits .f32 0x3F800000#32)) mid)) (all (Named.named κ "inv_127_5" 0x3C008081#32))
  select (andi (andi (cmpi .sgt t (broadcast S40x1024 0#32)) (cmpi .slt t (broadcast S40x1024 255#32)))
    (cmpf .ole mass (all (Scalar.ofBits .f32 0x3727C5AC#32)))) approx mass

/-- The mixture's first `n` components added up. -/
def partials (t : IVec S40x1024 32) (w : FVec F S10x1024 .f32) (mean scale : Fin 10 → FVec F S1x1024 .f32) : (n : ℕ) → n ≤ 10 → FVec F S40x1024 .f32
  | 0, _ => all (Scalar.ofBits .f32 0x00000000#32)
  | n + 1, h => addf (partials t w mean scale n (Nat.le_of_succ_le h))
      (mulf (rows (weight w ⟨n, h⟩)) (contribution t (mean ⟨n, h⟩) (invScale (scale ⟨n, h⟩))))

/-- The least bin of the box whose mass is the greatest, as the value it decodes to. -/
def decode (t : IVec S40x1024 32) (ub : IVec S1x1024 32) (acc : FVec F S40x1024 .f32) : FVec F S1x1024 .f32 :=
  let score : FVec F S40x1024 .f32 := select (cmpi .sle t (broadcastTo S40x1024 ub broadcasts_S1x1024_S40x1024)) acc (all (Scalar.ofBits .f32 0xBF800000#32))
  let best : FVec F S1x1024 .f32 := shapeCast S1x1024 (multiReduction .maximumf [0] S1024 score 0xFF800000#32 reduces_S40x1024_S1024 (.inl rfl) rfl) shapeCasts_S1024_S1x1024
  let cand : IVec S40x1024 32 := select (cmpf .oeq score (rows best)) t (broadcast S40x1024 1048576#32)
  let first : IVec S1x1024 32 := shapeCast S1x1024 (multiReductionI .minsi [0] S1024 cand 2147483647#32 reduces_S40x1024_S1024 rfl) shapeCasts_S1024_S1x1024
  divf (subf (sitofp .f32 first) (broadcast S1x1024 (Scalar.ofBits .f32 0x42FF0000#32))) (broadcast S1x1024 (Scalar.ofBits .f32 0x42FF0000#32))

/-- A channel decoded, given its components' means. -/
def channel (e : Elt F .i32) (x : FVec F S1x1024 .f32) (w : FVec F S10x1024 .f32) (mean scale : Fin 10 → FVec F S1x1024 .f32) : FVec F S1x1024 .f32 :=
  decode (bins (lower e x)) (upper e x) (partials (bins (lower e x)) w mean scale 10 le_rfl)

/-- The row of channel `c`'s parameter `j` (0 the mean, 1 the logarithm of the scale, 2 the coefficient) of component `k`. -/
def param (c j : Fin 3) (k : Fin 10) : Fin 100 := ⟨10 + 30 * c.val + 10 * j.val + k.val, by omega⟩

/-- The first channel's values. -/
def chan0 (x : Vec F S1x3x1024 .f32) (l : Vec F S1x100x1024 .f32) (e : Elt F .i32) : FVec F S1x1024 .f32 :=
  channel e (xrow x 0) (weights l) (fun k => row l (param 0 0 k)) (fun k => row l (param 0 1 k))

/-- The second channel's values, its means moved by the first's values. -/
def chan1 (x : Vec F S1x3x1024 .f32) (l : Vec F S1x100x1024 .f32) (e : Elt F .i32) (v0 : FVec F S1x1024 .f32) : FVec F S1x1024 .f32 :=
  channel e (xrow x 1) (weights l) (fun k => addf (row l (param 1 0 k)) (mulf (tanh (row l (param 0 2 k))) v0)) (fun k => row l (param 1 1 k))

/-- The third channel's values, its means moved by the values of the two before. -/
def chan2 (x : Vec F S1x3x1024 .f32) (l : Vec F S1x100x1024 .f32) (e : Elt F .i32) (v0 v1 : FVec F S1x1024 .f32) : FVec F S1x1024 .f32 :=
  channel e (xrow x 2) (weights l)
    (fun k => addf (row l (param 2 0 k)) (addf (mulf (tanh (row l (param 1 2 k))) v0) (mulf (tanh (row l (param 2 2 k))) v1)))
    (fun k => row l (param 2 1 k))

/-- The block: the three channels one below the other. -/
def block (x : Vec F S1x3x1024 .f32) (l : Vec F S1x100x1024 .f32) (e : Elt F .i32) : FVec F S1x3x1024 .f32 :=
  let v0 := chan0 x l e
  let v1 := chan1 x l e v0
  let v2 := chan2 x l e v0 v1
  shapeCast S1x3x1024 (concatenate S3x1024 0 [⟨S1x1024, v0⟩, ⟨S1x1024, v1⟩, ⟨S1x1024, v2⟩] concatenates_S1x1024_S1x1024_S1x1024_S3x1024_d0) shapeCasts_S3x1024_S1x3x1024

variable (m : (ℓ : Loc nD τ sig) → Buf (Elt F) ℓ)

set_option maxRecDepth 65536 in
set_option maxHeartbeats 4000000 in
/-- A launch point leaves the block of its input blocks. -/
theorem outsAt_eq (c : Dev nD) (t : Fin cfg0.N) :
    outsAt0 m c t = View.canon [⟨Rect.unit ![0, 0, 0] S1x3x1024.size inb_S1x3x1024_S1x3x1024_0_0_0, block (iblk m c 0 t) (iblk m c 1 t) (View.ld (iblk m c 2 t) (Rect.unit ![0] S1.size inb_S1_S1_0) (Shape.Idx.first numel1_S1.ge))⟩] := by
  unfold outsAt0 out0_A_3
  rw [View.read_writes_eq_canon _ _ _ (cover0_A_3 c _ _ _ _ _ _ _ _ _ _ _ _)]
  unfold kernelRun0_A
  dsimp only
  sl_unfold_words
  simp only [View.readAt_eq_ld, (hs0_0 t).read_unread, (hs0_1 t).read_unread, (hs0_2 t).read_unread]
  sl_kernel_rfl

end Cert.KernelIdeal.Block
-- ==== Proof.Math.lean ====
/- The mathematics of the decoder, over the real numbers: the mixture's mass in a bin, the least bin of the box whose
   mass is the greatest, and the logarithms that the reference takes. -/
module

public import Idealize.ShloMosaic.PureOps.Ideal
public import Mathlib.Analysis.SpecialFunctions.Log.Basic
public import Mathlib.Analysis.SpecialFunctions.Trigonometric.DerivHyp

@[expose] public section

noncomputable section

namespace Decode

/-- The logistic function. -/
def sg (x : ℝ) : ℝ := (1 + Real.exp (-x))⁻¹

theorem sg_pos (x : ℝ) : 0 < sg x := by unfold sg; positivity

theorem sg_lt_one (x : ℝ) : sg x < 1 := by
  unfold sg
  exact inv_lt_one_of_one_lt₀ (by linarith [Real.exp_pos (-x)])

/-- The logistic function is strictly increasing. -/
theorem sg_lt {x y : ℝ} (h : x < y) : sg x < sg y := by
  unfold sg
  apply (inv_lt_inv₀ (by positivity) (by positivity)).2
  linarith [Real.exp_lt_exp.2 (neg_lt_neg h)]

/-- `1 - sg x`, as a quotient of exponentials. -/
theorem one_sub_sg (x : ℝ) : 1 - sg x = (1 + Real.exp x)⁻¹ := by
  unfold sg
  rw [Real.exp_neg]
  have := Real.exp_pos x
  field_simp
  ring

/-- The softplus function, in the form that does not overflow. -/
theorem softplus_eq (x : ℝ) : max x 0 + Real.log (1 + Real.exp (-|x|)) = Real.log (1 + Real.exp x) := by
  rcases le_total 0 x with h | h
  · rw [max_eq_left h, abs_of_nonneg h, Real.exp_neg]
    have e : 1 + Real.exp x = Real.exp x * (1 + (Real.exp x)⁻¹) := by
      have := Real.exp_pos x
      field_simp
      ring
    rw [e, Real.log_mul (Real.exp_pos x).ne' (by positivity), Real.log_exp]
  · rw [max_eq_right h, abs_of_nonpos h, neg_neg, zero_add]

/-- The logarithm of the logistic function is `x - softplus x`. -/
theorem sub_softplus (x : ℝ) : x - Real.log (1 + Real.exp x) = Real.log (sg x) := by
  have e : sg x = Real.exp x * (1 + Real.exp x)⁻¹ := by
    unfold sg
    rw [Real.exp_neg]
    have := Real.exp_pos x
    field_simp
    ring
  rw [e, Real.log_mul (Real.exp_pos x).ne' (by positivity), Real.log_exp, Real.log_inv]
  ring

/-- The logarithm of `1 - sg x` is `- softplus x`. -/
theorem neg_softplus (x : ℝ) : -Real.log (1 + Real.exp x) = Real.log (1 - sg x) := by
  rw [one_sub_sg, Real.log_inv]

/-- The inverse scale of a component whose scale's logarithm is `s`. -/
def inv (s : ℝ) : ℝ := Real.exp (-(max s (-7)))

theorem inv_pos (s : ℝ) : 0 < inv s := Real.exp_pos _

/-- Bin `t`'s lower edge. -/
def edge (t : ℕ) : ℝ := t / 128 - 1

/-- The component's mass below bin `t`. -/
def below (m v : ℝ) (t : ℕ) : ℝ := if t = 0 then 0 else sg ((edge t - m) * v)

/-- The component's mass up to and with bin `t`. -/
def upto (m v : ℝ) (t : ℕ) : ℝ := if t = 255 then 1 else sg ((edge t + 1 / 128 - m) * v)

/-- The component's mass in bin `t`. -/
def mass (m v : ℝ) (t : ℕ) : ℝ := upto m v t - below m v t

/-- The logistic function at bin `t`'s middle. -/
def mid (m v : ℝ) (t : ℕ) : ℝ := sg ((edge t + 1 / 256 - m) * v)

/-- The density at bin `t`'s middle, times the width `2 / 255`. -/
def dens (m v : ℝ) (t : ℕ) : ℝ := v * mid m v t * (1 - mid m v t) * (2 / 255)

/-- The mass below which an interior bin is given by its density. -/
def tiny : ℝ := 10995116 / 2 ^ 40

/-- What the component gives bin `t`. -/
def contrib (m v : ℝ) (t : ℕ) : ℝ := if (0 < t ∧ t < 255) ∧ mass m v t ≤ tiny then dens m v t else mass m v t

theorem dens_pos {m v : ℝ} (hv : 0 < v) (t : ℕ) : 0 < dens m v t := by
  have h1 : 0 < mid m v t := sg_pos _
  have h2 : 0 < 1 - mid m v t := sub_pos.2 (sg_lt_one _)
  unfold dens
  positivity

theorem mass_pos {m v : ℝ} (hv : 0 < v) (t : ℕ) : 0 < mass m v t := by
  unfold mass upto below
  have e : (edge t - m) * v < (edge t + 1 / 128 - m) * v := by
    have : edge t - m < edge t + 1 / 128 - m := by linarith
    exact mul_lt_mul_of_pos_right this hv
  split_ifs <;> linarith [sg_pos ((edge t + 1 / 128 - m) * v), sg_lt_one ((edge t - m) * v), sg_lt e]

theorem contrib_pos {m v : ℝ} (hv : 0 < v) (t : ℕ) : 0 < contrib m v t := by
  unfold contrib
  split_ifs
  · exact dens_pos hv t
  · exact mass_pos hv t

/-- The logarithm of the density, as the reference takes it. -/
theorem log_dens (m s : ℝ) (t : ℕ) :
    inv s * (edge t + 1 / 256 - m) - max s (-7) - 2 * Real.log (1 + Real.exp (inv s * (edge t + 1 / 256 - m))) - Real.log (255 / 2)
      = Real.log (dens m (inv s) t) := by
  have hm : 0 < mid m (inv s) t := sg_pos _
  have h1 : 0 < 1 - mid m (inv s) t := sub_pos.2 (sg_lt_one _)
  have hv := inv_pos s
  unfold dens
  rw [Real.log_mul (by positivity) (by norm_num), Real.log_mul (by positivity) h1.ne', Real.log_mul hv.ne' hm.ne']
  unfold mid
  rw [← neg_softplus, ← sub_softplus, mul_comm (inv s)]
  have e1 : Real.log (inv s) = -(max s (-7)) := Real.log_exp _
  have e2 : Real.log (2 / 255 : ℝ) = - Real.log (255 / 2) := by
    rw [← Real.log_inv]; norm_num
  rw [e1, e2]
  ring

/-- Weight `k` of the mixture. -/
def wt (L : Fin 10 → ℝ) (k : Fin 10) : ℝ := Real.exp (L k) / ∑ j, Real.exp (L j)

theorem sum_exp_pos (L : Fin 10 → ℝ) : 0 < ∑ j, Real.exp (L j) :=
  Finset.sum_pos (fun _ _ => Real.exp_pos _) ⟨0, Finset.mem_univ _⟩

theorem wt_pos (L : Fin 10 → ℝ) (k : Fin 10) : 0 < wt L k := div_pos (Real.exp_pos _) (sum_exp_pos L)

/-- The weights do not change when one number is taken off every logit. -/
theorem wt_shift (L : Fin 10 → ℝ) (c : ℝ) (k : Fin 10) : Real.exp (L k - c) / ∑ j, Real.exp (L j - c) = wt L k := by
  unfold wt
  simp only [Real.exp_sub, ← Finset.sum_div]
  have := sum_exp_pos L
  have := Real.exp_pos c
  field_simp

/-- The logarithm of a weight, as the reference takes it. -/
theorem log_wt (L : Fin 10 → ℝ) (c : ℝ) (k : Fin 10) : (L k - c) - Real.log (∑ j, Real.exp (L j - c)) = Real.log (wt L k) := by
  rw [← wt_shift L c, Real.log_div (Real.exp_pos _).ne' (sum_exp_pos _).ne', Real.log_exp]

/-- The mixture's mass in bin `t`. -/
def score (L m s : Fin 10 → ℝ) (t : ℕ) : ℝ := ∑ k, wt L k * contrib (m k) (inv (s k)) t

theorem score_pos (L m s : Fin 10 → ℝ) (t : ℕ) : 0 < score L m s t :=
  Finset.sum_pos (fun k _ => mul_pos (wt_pos L k) (contrib_pos (inv_pos _) t)) ⟨0, Finset.mem_univ _⟩

/-- The least place of `[lb, ub]` at which `f` is the greatest. -/
def best (lb ub : ℕ) (f : ℕ → ℝ) : ℕ := sInf {t | lb ≤ t ∧ t ≤ ub ∧ ∀ s, lb ≤ s → s ≤ ub → f s ≤ f t}

theorem best_spec {lb ub : ℕ} (h : lb ≤ ub) (f : ℕ → ℝ) :
    lb ≤ best lb ub f ∧ best lb ub f ≤ ub ∧ ∀ s, lb ≤ s → s ≤ ub → f s ≤ f (best lb ub f) := by
  apply Nat.sInf_mem (s := {t | lb ≤ t ∧ t ≤ ub ∧ ∀ s, lb ≤ s → s ≤ ub → f s ≤ f t})
  obtain ⟨t, ht, hm⟩ := Finset.exists_max_image (Finset.Icc lb ub) f ⟨lb, by simp [h]⟩
  simp only [Finset.mem_Icc] at ht hm
  exact ⟨t, ht.1, ht.2, fun s a b => hm s ⟨a, b⟩⟩

/-- The place is the least one. -/
theorem best_le {lb ub : ℕ} (h : lb ≤ ub) (f : ℕ → ℝ) {t : ℕ} (h1 : lb ≤ t) (h2 : t ≤ ub) (e : f t = f (best lb ub f)) :
    best lb ub f ≤ t :=
  Nat.sInf_le ⟨h1, h2, fun s a b => by rw [e]; exact (best_spec h f).2.2 s a b⟩

/-- The bin that a pixel value lies in. -/
def bin (x : ℝ) : ℕ := ⌊x * (255 / 2) + 255 / 2⌋₊

/-- A bin's value. -/
def val (n : ℕ) : ℝ := (n - 255 / 2) / (255 / 2)

/-- A channel decoded: the value of the best bin no further than `e` bins from the pixel's. -/
def chan (x : ℝ) (e : ℕ) (f : ℕ → ℝ) : ℝ := val (best (bin x - e) (min (bin x + e) 255) f)

/-- The row of channel `c`'s parameter `j` (0 the mean, 1 the logarithm of the scale, 2 the coefficient) of component `k`. -/
def param (c j : Fin 3) (k : Fin 10) : Fin 100 := ⟨10 + 30 * c.val + 10 * j.val + k.val, by omega⟩

/-- The row of component `k`'s logit. -/
def logit (k : Fin 10) : Fin 100 := ⟨k.val, by omega⟩

/-- The means of channel `c`'s components, given the values of the two channels before. -/
def mean (l : Fin 100 → ℝ) (c : Fin 3) (v0 v1 : ℝ) (k : Fin 10) : ℝ :=
  match c with
  | 0 => l (param 0 0 k)
  | 1 => l (param 1 0 k) + Real.tanh (l (param 0 2 k)) * v0
  | 2 => l (param 2 0 k) + (Real.tanh (l (param 1 2 k)) * v0 + Real.tanh (l (param 2 2 k)) * v1)

/-- Channel `c` decoded, given the values of the two channels before. -/
def step (x : Fin 3 → ℝ) (l : Fin 100 → ℝ) (e : ℕ) (c : Fin 3) (v0 v1 : ℝ) : ℝ :=
  chan (x c) e (score (fun k => l (logit k)) (mean l c v0 v1) (fun k => l (param c 1 k)))

/-- A pixel decoded, channel after channel. -/
def pixel (x : Fin 3 → ℝ) (l : Fin 100 → ℝ) (e : ℕ) (c : Fin 3) : ℝ :=
  let v0 := step x l e 0 0 0
  let v1 := step x l e 1 v0 0
  match c with
  | 0 => v0
  | 1 => v1
  | 2 => step x l e 2 v0 v1

end Decode
-- ==== Proof.Scalars.lean ====
/- The numbers and words that the two programs are made of: what a constant denotes, and what the integer operations
   do to small natural numbers kept as words. -/
module

public import proofs.«01_k».proof.Proof.Math
public import Idealize.ShloMosaic.Lib.Pointwise

@[expose] public section

noncomputable section

namespace Decode

open Idealize.ShloMosaic

theorem lit_128 : Ideal.ofBits .f32 0x3C000000#32 = ((1 / 128 : ℝ) : EReal) := by
  simp [Ideal.ofBits, Ideal.ieee, -EReal.coe_mul]; norm_num

theorem lit_256 : Ideal.ofBits .f32 0x3B800000#32 = ((1 / 256 : ℝ) : EReal) := by
  simp [Ideal.ofBits, Ideal.ieee, -EReal.coe_mul]; norm_num

theorem lit_half : Ideal.ofBits .f32 0x42FF0000#32 = ((255 / 2 : ℝ) : EReal) := by
  simp [Ideal.ofBits, Ideal.ieee, -EReal.coe_mul]; norm_num

theorem lit_tiny : Ideal.ofBits .f32 0x3727C5AC#32 = ((tiny : ℝ) : EReal) := by
  simp [Ideal.ofBits, Ideal.ieee, -EReal.coe_mul, tiny]; norm_num

theorem lit_neg7 : Ideal.ofBits .f32 0xC0E00000#32 = ((-7 : ℝ) : EReal) := by
  simp [Ideal.ofBits, Ideal.ieee, -EReal.coe_mul]; norm_num

theorem lit_neg1 : Ideal.ofBits .f32 0xBF800000#32 = ((-1 : ℝ) : EReal) := by
  simp [Ideal.ofBits, Ideal.ieee, -EReal.coe_mul]; norm_num

theorem lit_bot : Ideal.ofBits .f32 0xFF800000#32 = ⊥ := by
  simp [Ideal.ofBits, Ideal.ieee]

theorem lit_top : Ideal.ofBits .f32 0x7F800000#32 = ⊤ := by
  simp [Ideal.ofBits, Ideal.ieee]

theorem lit_e128 : Ideal.ofBits .f32 0x43000000#32 = ((128 : ℝ) : EReal) := by
  simp [Ideal.ofBits, Ideal.ieee, -EReal.coe_mul]; norm_num

theorem lit_e256 : Ideal.ofBits .f32 0x43800000#32 = ((256 : ℝ) : EReal) := by
  simp [Ideal.ofBits, Ideal.ieee, -EReal.coe_mul]; norm_num

theorem lit_two : Ideal.ofBits .f32 0x40000000#32 = ((2 : ℝ) : EReal) := by
  simp [Ideal.ofBits, Ideal.ieee, -EReal.coe_mul]; norm_num

theorem logistic_eq (x : ℝ) : Ideal.logistic (x : EReal) = ((sg x : ℝ) : EReal) := Ideal.logistic_coe x

/-- A quotient of real numbers. -/
theorem div_eq (x y : ℝ) (h : y ≠ 0) : Ideal.div (x : EReal) (y : EReal) = ((x / y : ℝ) : EReal) := by
  rw [Ideal.div_coe h, ← EReal.coe_mul, mul_one_div]

theorem max_coe (x y : ℝ) : max (x : EReal) (y : EReal) = ((max x y : ℝ) : EReal) :=
  (EReal.coe_strictMono.monotone.map_max).symm

/-- A finite sum of real numbers. -/
theorem sum_coe {ι : Type} (s : Finset ι) (f : ι → ℝ) : ∑ k ∈ s, ((f k : ℝ) : EReal) = ((∑ k ∈ s, f k : ℝ) : EReal) := by
  classical
  induction s using Finset.induction with
  | empty => simp
  | insert a s ha ih => rw [Finset.sum_insert ha, Finset.sum_insert ha, ih, EReal.coe_add]

/-- The greatest of ten real numbers is a real number. -/
theorem fold_max_real (f : Fin 10 → ℝ) : ∃ c : ℝ, Finset.univ.fold max (⊥ : EReal) (fun k => ((f k : ℝ) : EReal)) = (c : EReal) := by
  have key : ∀ s : Finset (Fin 10), s.Nonempty → ∃ c : ℝ, s.fold max (⊥ : EReal) (fun k => ((f k : ℝ) : EReal)) = (c : EReal) := by
    intro s hs
    induction hs using Finset.Nonempty.cons_induction with
    | singleton a => exact ⟨f a, by simp⟩
    | cons a s ha _ ih =>
      obtain ⟨c, hc⟩ := ih
      exact ⟨max (f a) c, by rw [Finset.fold_cons, hc, max_coe]⟩
  exact key _ ⟨0, Finset.mem_univ _⟩

/-- A fold by `max` is the value that is attained and that no value exceeds. -/
theorem fold_max_eq {ι : Type} (s : Finset ι) (f : ι → EReal) (b M : EReal) (hb : b ≤ M) (i : ι) (hi : i ∈ s) (e : f i = M)
    (h : ∀ j ∈ s, f j ≤ M) : s.fold max b f = M :=
  le_antisymm (Finset.fold_max_le _ |>.2 ⟨hb, h⟩) (e ▸ (Finset.le_fold_max _).2 (Or.inr ⟨i, hi, le_rfl⟩))

/-- A fold by the signed minimum of words is the word that is attained and that no word is below. -/
theorem fold_minsi_eq {ι : Type} (s : Finset ι) (f : ι → BitVec 32) (b M : BitVec 32) (hb : M.toInt ≤ b.toInt) (i : ι) (hi : i ∈ s)
    (e : f i = M) (h : ∀ j ∈ s, M.toInt ≤ (f j).toInt) : s.fold IntOp.minsi b f = M := by
  classical
  have mn : ∀ x y : BitVec 32, (IntOp.minsi x y).toInt = min x.toInt y.toInt := by
    intro x y
    unfold IntOp.minsi
    split_ifs with hh
    · exact (min_eq_left (BitVec.slt_iff_toInt_lt.1 hh).le).symm
    · exact (min_eq_right (not_lt.1 fun h' => hh (BitVec.slt_iff_toInt_lt.2 h'))).symm
  have fd : ∀ s : Finset ι, (s.fold IntOp.minsi b f).toInt = s.fold min b.toInt (fun j => (f j).toInt) := by
    intro s
    induction s using Finset.induction with
    | empty => rfl
    | insert a s ha ih => rw [Finset.fold_insert ha, Finset.fold_insert ha, mn, ih]
  apply BitVec.eq_of_toInt_eq
  rw [fd]
  exact le_antisymm (e ▸ (Finset.fold_min_le _).2 (Or.inr ⟨i, hi, le_rfl⟩)) ((Finset.le_fold_min _).2 ⟨hb, h⟩)

/-! ## Small numbers as words -/

theorem toInt_small {n : ℕ} (h : n < 2 ^ 31) : (BitVec.ofNat 32 n).toInt = n := by
  rw [BitVec.toInt_ofNat']
  simp only [Int.bmod_def]
  omega

theorem ofNat_inj {a b : ℕ} (ha : a < 2 ^ 31) (hb : b < 2 ^ 31) : BitVec.ofNat 32 a = BitVec.ofNat 32 b ↔ a = b := by
  constructor
  · intro h
    have := congrArg BitVec.toInt h
    rw [toInt_small ha, toInt_small hb] at this
    exact_mod_cast this
  · rintro rfl; rfl

theorem sitofp_small {n : ℕ} (h : n < 2 ^ 31) : FloatOps.sitofp (F := Ideal) FTy.f32 (BitVec.ofNat 32 n) = ((n : ℝ) : EReal) := by
  show (((BitVec.ofNat 32 n).toInt : ℝ) : EReal) = _
  rw [toInt_small h]
  norm_cast

theorem eq_small {a b : ℕ} (ha : a < 2 ^ 31) (hb : b < 2 ^ 31) : IntOp.cmpi .eq (BitVec.ofNat 32 a) (BitVec.ofNat 32 b) = BitVec.ofBool (decide (a = b)) := by
  show BitVec.ofBool (decide _) = _
  simp only [ofNat_inj ha hb]

theorem lt_small {a b : ℕ} (ha : a < 2 ^ 31) (hb : b < 2 ^ 31) : IntOp.cmpi .slt (BitVec.ofNat 32 a) (BitVec.ofNat 32 b) = BitVec.ofBool (decide (a < b)) := by
  show BitVec.ofBool (BitVec.slt _ _) = _
  congr 1
  rw [Bool.eq_iff_iff, BitVec.slt_iff_toInt_lt, toInt_small ha, toInt_small hb, decide_eq_true_iff]
  norm_cast

theorem gt_small {a b : ℕ} (ha : a < 2 ^ 31) (hb : b < 2 ^ 31) : IntOp.cmpi .sgt (BitVec.ofNat 32 a) (BitVec.ofNat 32 b) = BitVec.ofBool (decide (b < a)) :=
  lt_small hb ha

theorem le_small {a b : ℕ} (ha : a < 2 ^ 31) (hb : b < 2 ^ 31) : IntOp.cmpi .sle (BitVec.ofNat 32 a) (BitVec.ofNat 32 b) = BitVec.ofBool (decide (a ≤ b)) := by
  show BitVec.ofBool (BitVec.sle _ _) = _
  congr 1
  rw [Bool.eq_iff_iff, BitVec.sle_iff_toInt_le, toInt_small ha, toInt_small hb, decide_eq_true_iff]
  norm_cast

theorem lo_word : ∀ (r : Fin 256) (e : Fin 20), IntOp.maxsi (IntOp.subi (BitVec.ofNat 32 r.val) (BitVec.ofNat 32 e.val)) 0#32 = BitVec.ofNat 32 (r.val - e.val) := by
  decide +kernel

theorem hi_word : ∀ (r : Fin 256) (e : Fin 20), IntOp.minsi (IntOp.addi (BitVec.ofNat 32 r.val) (BitVec.ofNat 32 e.val)) 255#32 = BitVec.ofNat 32 (min (r.val + e.val) 255) := by
  decide +kernel

theorem select_ofBool {α : Type} (p : Prop) [Decidable p] (x y : α) : Scalar.select (BitVec.ofBool (decide p)) x y = if p then x else y := by
  by_cases h : p <;> simp [h, Scalar.select]

theorem andi_ofBool (p q : Prop) [Decidable p] [Decidable q] : IntOp.andi (BitVec.ofBool (decide p)) (BitVec.ofBool (decide q)) = BitVec.ofBool (decide (p ∧ q)) := by
  by_cases h : p <;> by_cases h' : q <;> simp [h, h', IntOp.andi]

theorem bin_le {x : ℝ} (h : x ≤ 1) : bin x < 256 := by
  unfold bin
  rw [Nat.floor_lt' (by norm_num)]
  norm_num
  linarith

/-- A pixel in `[-1, 1]` rounds toward zero to its bin's number. -/
theorem fptosi_bin {x : ℝ} (h0 : -1 ≤ x) (h1 : x ≤ 1) :
    FloatOps.fptosi (F := Ideal) (φ := .f32) 32 ((x : EReal) * ((255 / 2 : ℝ) : EReal) + ((255 / 2 : ℝ) : EReal)) = BitVec.ofNat 32 (bin x) := by
  have hx : 0 ≤ x * (255 / 2) + 255 / 2 := by linarith
  have hb := bin_le h1
  rw [← EReal.coe_mul, ← EReal.coe_add]
  show BitVec.ofInt 32 (Ideal.toIntClamped _ _ _) = _
  rw [Ideal.toIntClamped_coe, if_pos hx, ← Int.natCast_floor_eq_floor hx]
  have : (⌊x * (255 / 2) + 255 / 2⌋₊ : ℕ) = bin x := rfl
  rw [this, min_eq_right (by norm_num; omega), max_eq_right (by norm_num)]
  rfl

end Decode
-- ==== Proof.BlockRead.lean ====
/- The kernel's block at an index: on real inputs every pixel of the block holds the decoded value of `Math`. -/
module

public import proofs.«01_k».proof.Proof.Block
public import proofs.«01_k».proof.Proof.Scalars

@[expose] public section

noncomputable section

namespace Cert.KernelIdeal.Block

open Idealize.ShloMosaic Idealize.SL.Sem Cert.KernelIdeal Cert.KernelIdeal.Gen Decode

theorem named_inv : Named.named (F := Ideal) κ "inv_127_5" (φ := .f32) 0x3C008081#32 = ((2 / 255 : ℝ) : EReal) := by
  rw [IdealRules.named_const.ideal_named_scalar _ _ _ _ rfl]

theorem row_apply (l : Vec Ideal S1x100x1024 .f32) (i : Fin 100) (p : Fin 1024) : row l i (ix2 0 p) = l (ix3 0 i p) := by
  pointwise [row]

theorem xrow_apply (x : Vec Ideal S1x3x1024 .f32) (c : Fin 3) (p : Fin 1024) : xrow x c (ix2 0 p) = x (ix3 0 c p) := by
  pointwise [xrow]

/-- The box's lowest bin, as a word. -/
theorem lower_apply (x : FVec Ideal S1x1024 .f32) (p : Fin 1024) (X : ℝ) (hx : x (ix2 0 p) = (X : EReal)) (h0 : -1 ≤ X) (h1 : X ≤ 1) (e : ℕ) (he : e < 20) :
    lower (F := Ideal) (BitVec.ofNat 32 e) x (ix2 0 p) = BitVec.ofNat 32 (bin X - e) := by
  pointwise [lower, recovered]
  rw [hx, lit_half, fptosi_bin h0 h1]
  exact lo_word ⟨bin X, bin_le h1⟩ ⟨e, he⟩

/-- The box's highest bin, as a word. -/
theorem upper_apply (x : FVec Ideal S1x1024 .f32) (p : Fin 1024) (X : ℝ) (hx : x (ix2 0 p) = (X : EReal)) (h0 : -1 ≤ X) (h1 : X ≤ 1) (e : ℕ) (he : e < 20) :
    upper (F := Ideal) (BitVec.ofNat 32 e) x (ix2 0 p) = BitVec.ofNat 32 (min (bin X + e) 255) := by
  pointwise [upper, recovered]
  rw [hx, lit_half, fptosi_bin h0 h1]
  exact hi_word ⟨bin X, bin_le h1⟩ ⟨e, he⟩

/-- The window's bins, as words. -/
theorem bins_apply (lo : IVec S1x1024 32) (i : Fin 40) (p : Fin 1024) (n : ℕ) (h : lo (ix2 0 p) = BitVec.ofNat 32 n) :
    bins lo (ix2 i p) = BitVec.ofNat 32 (n + i.val) := by
  pointwise [bins]
  rw [h]
  exact (BitVec.ofNat_add n i.val).symm

/-- A component's inverse scale. -/
theorem invScale_apply (s : FVec Ideal S1x1024 .f32) (p : Fin 1024) (S : ℝ) (h : s (ix2 0 p) = (S : EReal)) :
    invScale s (ix2 0 p) = ((inv S : ℝ) : EReal) := by
  pointwise [invScale]
  rw [h, lit_neg7, max_coe, zero_sub, ← EReal.coe_neg]
  rfl

/-- What a component gives bin `n`. -/
theorem contribution_apply (t : IVec S40x1024 32) (m v : FVec Ideal S1x1024 .f32) (i : Fin 40) (p : Fin 1024) (n : ℕ) (hn : n < 2 ^ 31)
    (M V : ℝ) (ht : t (ix2 i p) = BitVec.ofNat 32 n) (hm : m (ix2 0 p) = (M : EReal)) (hv : v (ix2 0 p) = (V : EReal)) :
    contribution t m v (ix2 i p) = ((contrib M V n : ℝ) : EReal) := by
  pointwise [contribution, Block.edge, rows, all]
  rw [ht, hm, hv, gt_small hn (by norm_num), lt_small hn (by norm_num), eq_small hn (by norm_num), eq_small hn (by norm_num), andi_ofBool, andi_ofBool,
    sitofp_small hn, lit_128, lit_256, lit_tiny, named_inv]
  simp only [select_ofBool]
  have e1 : ((n : ℝ) : EReal) * ((1 / 128 : ℝ) : EReal) - 1 = ((Decode.edge n : ℝ) : EReal) := by
    unfold Decode.edge
    rw [← EReal.coe_one, ← EReal.coe_mul, ← EReal.coe_sub, mul_one_div]
  have elo : (if n = 0 then (0 : EReal) else Ideal.logistic ((((Decode.edge n : ℝ) : EReal) - M) * V)) = ((below M V n : ℝ) : EReal) := by
    unfold below
    split_ifs
    · rfl
    · rw [← EReal.coe_sub, ← EReal.coe_mul, logistic_eq]
  have ehi : (if n = 255 then (1 : EReal) else Ideal.logistic ((((Decode.edge n : ℝ) : EReal) + ((1 / 128 : ℝ) : EReal) - M) * V)) = ((upto M V n : ℝ) : EReal) := by
    unfold upto
    split_ifs
    · rfl
    · rw [← EReal.coe_add, ← EReal.coe_sub, ← EReal.coe_mul, logistic_eq]
  have emid : Ideal.logistic ((((Decode.edge n : ℝ) : EReal) + ((1 / 256 : ℝ) : EReal) - M) * V) = ((mid M V n : ℝ) : EReal) := by
    rw [← EReal.coe_add, ← EReal.coe_sub, ← EReal.coe_mul, logistic_eq]
    rfl
  have em : upto M V n - below M V n = mass M V n := rfl
  rw [e1, elo, ehi, emid, ← EReal.coe_sub, em, ← EReal.coe_one, ← EReal.coe_sub, ← EReal.coe_mul, ← EReal.coe_mul, ← EReal.coe_mul]
  unfold contrib
  simp only [EReal.coe_le_coe_iff]
  split_ifs <;> rfl

/-- The mixture's weights. -/
theorem weights_apply (l : Vec Ideal S1x100x1024 .f32) (p : Fin 1024) (L : Fin 10 → ℝ) (h : ∀ k, l (ix3 0 (logit k) p) = (L k : EReal)) (k : Fin 10) :
    weight (weights l) k (ix2 0 p) = ((wt L k : ℝ) : EReal) := by
  pointwise [weight, weights]
  obtain ⟨c, hc⟩ := fold_max_real L
  have h' : ∀ k : Fin 10, l (ix3 0 ⟨k.val, by omega⟩ p) = (L k : EReal) := h
  simp only [h', lit_bot, hc, ← EReal.coe_sub, Ideal.exp_coe, sum_coe]
  rw [div_eq _ _ (Finset.sum_pos (fun _ _ => Real.exp_pos _) ⟨0, Finset.mem_univ _⟩).ne', wt_shift]

/-- The components added up. -/
theorem partials_apply (t : IVec S40x1024 32) (w : FVec Ideal S10x1024 .f32) (mean scale : Fin 10 → FVec Ideal S1x1024 .f32)
    (i : Fin 40) (p : Fin 1024) (b : ℕ) (hb : b < 2 ^ 31) (W M S : Fin 10 → ℝ) (ht : t (ix2 i p) = BitVec.ofNat 32 b)
    (hw : ∀ k, weight w k (ix2 0 p) = (W k : EReal)) (hm : ∀ k, mean k (ix2 0 p) = (M k : EReal)) (hs : ∀ k, scale k (ix2 0 p) = (S k : EReal)) :
    ∀ (n : ℕ) (h : n ≤ 10), partials t w mean scale n h (ix2 i p)
      = ((∑ k : Fin n, W ⟨k.val, k.isLt.trans_le h⟩ * contrib (M ⟨k.val, k.isLt.trans_le h⟩) (inv (S ⟨k.val, k.isLt.trans_le h⟩)) b : ℝ) : EReal) := by
  intro n
  induction n with
  | zero =>
    intro h
    pointwise [partials, all]
    simp
  | succ n ih =>
    intro h
    have step : partials t w mean scale (n + 1) h (ix2 i p) = partials t w mean scale n (Nat.le_of_succ_le h) (ix2 i p)
        + weight w ⟨n, h⟩ (ix2 0 p) * contribution t (mean ⟨n, h⟩) (invScale (scale ⟨n, h⟩)) (ix2 i p) := by
      pointwise [partials, rows]
    rw [step, ih, hw, contribution_apply t _ _ i p b hb _ _ ht (hm _) (invScale_apply _ p _ (hs _)), ← EReal.coe_mul, ← EReal.coe_add, Fin.sum_univ_castSucc]
    rfl

/-- The least bin of the box whose mass is the greatest, decoded. -/
theorem decode_apply (t : IVec S40x1024 32) (ub : IVec S1x1024 32) (acc : FVec Ideal S40x1024 .f32) (p : Fin 1024) (lo hi : ℕ) (f : ℕ → ℝ)
    (hle : lo ≤ hi) (hhi : hi ≤ 255) (hw : hi < lo + 40) (hf : ∀ n, 0 < f n)
    (ht : ∀ i : Fin 40, t (ix2 i p) = BitVec.ofNat 32 (lo + i.val)) (hu : ub (ix2 0 p) = BitVec.ofNat 32 hi)
    (ha : ∀ i : Fin 40, acc (ix2 i p) = ((f (lo + i.val) : ℝ) : EReal)) :
    Block.decode t ub acc (ix2 0 p) = ((val (best lo hi f) : ℝ) : EReal) := by
  pointwise [Block.decode, rows, all]
  obtain ⟨b1, b2, b3⟩ := best_spec hle f
  have b4 : ∀ {t : ℕ}, lo ≤ t → t ≤ hi → f t = f (best lo hi f) → best lo hi f ≤ t := fun h1 h2 e => best_le hle f h1 h2 e
  generalize best lo hi f = b at b1 b2 b3 b4 ⊢
  have hs : ∀ x : Fin 40, Scalar.select (IntOp.cmpi .sle (t (ix2 x p)) (ub (ix2 0 p))) (acc (ix2 x p)) (Ideal.ofBits FTy.f32 0xBF800000#32)
      = if lo + x.val ≤ hi then ((f (lo + x.val) : ℝ) : EReal) else ((-1 : ℝ) : EReal) := by
    intro x
    rw [ht, hu, ha, le_small (by omega) (by omega), select_ofBool, lit_neg1]
  simp only [hs, lit_bot, lit_half]
  have hb : lo + (⟨b - lo, by omega⟩ : Fin 40).val = b := by simp only; omega
  rw [fold_max_eq Finset.univ _ ⊥ ((f b : ℝ) : EReal) bot_le ⟨b - lo, by omega⟩ (Finset.mem_univ _)
    (by rw [hb, if_pos b2])
    (by
      intro j _
      split_ifs with hj
      · exact EReal.coe_le_coe_iff.2 (b3 _ (by omega) hj)
      · exact EReal.coe_le_coe_iff.2 (by linarith [hf b]))]
  rw [fold_minsi_eq Finset.univ _ _ (BitVec.ofNat 32 b) (by rw [toInt_small (by omega)]; show _ ≤ (2147483647 : ℤ); omega) ⟨b - lo, by omega⟩ (Finset.mem_univ _)
    (by rw [hb, if_pos b2, if_pos rfl, ht, hb])
    (by
      intro j _
      rw [toInt_small (by omega)]
      split_ifs with h1 h2 h2
      · rw [ht, toInt_small (by omega)]
        have := b4 (Nat.le_add_right _ _) h1 (EReal.coe_eq_coe_iff.1 h2)
        exact_mod_cast this
      · show _ ≤ (1048576 : ℤ); omega
      · have := EReal.coe_eq_coe_iff.1 h2
        linarith [hf b]
      · show _ ≤ (1048576 : ℤ); omega)]
  rw [sitofp_small (by omega), ← EReal.coe_sub, div_eq _ _ (by norm_num)]
  rfl

/-- A channel decoded. -/
theorem channel_apply (x : FVec Ideal S1x1024 .f32) (w : FVec Ideal S10x1024 .f32) (mean scale : Fin 10 → FVec Ideal S1x1024 .f32) (p : Fin 1024)
    (e : ℕ) (he : e < 20) (X : ℝ) (h0 : -1 ≤ X) (h1 : X ≤ 1) (L M S : Fin 10 → ℝ) (hx : x (ix2 0 p) = (X : EReal))
    (hw : ∀ k, weight w k (ix2 0 p) = ((wt L k : ℝ) : EReal)) (hm : ∀ k, mean k (ix2 0 p) = (M k : EReal)) (hs : ∀ k, scale k (ix2 0 p) = (S k : EReal)) :
    channel (F := Ideal) (BitVec.ofNat 32 e) x w mean scale (ix2 0 p) = ((chan X e (score L M S) : ℝ) : EReal) := by
  have hb := bin_le h1
  have hl := lower_apply x p X hx h0 h1 e he
  have hbin : ∀ i : Fin 40, bins (lower (F := Ideal) (BitVec.ofNat 32 e) x) (ix2 i p) = BitVec.ofNat 32 (bin X - e + i.val) := fun i => bins_apply _ i p _ hl
  unfold channel
  apply decode_apply _ _ _ p _ _ _ (by omega) (by omega) (by omega) (score_pos L M S) hbin (upper_apply x p X hx h0 h1 e he)
  intro i
  exact partials_apply _ w mean scale i p _ (by omega) _ M S (hbin i) hw hm hs 10 le_rfl

/-- The block at a pixel: the pixel decoded. -/
theorem block_apply (x : Vec Ideal S1x3x1024 .f32) (l : Vec Ideal S1x100x1024 .f32) (e : ℕ) (he : e < 20) (p : Fin 1024) (X : Fin 3 → ℝ) (L : Fin 100 → ℝ)
    (hx : ∀ c, x (ix3 0 c p) = (X c : EReal)) (h0 : ∀ c, -1 ≤ X c) (h1 : ∀ c, X c ≤ 1) (hl : ∀ i, l (ix3 0 i p) = (L i : EReal)) (c : Fin 3) :
    block (F := Ideal) x l (BitVec.ofNat 32 e) (ix3 0 c p) = ((pixel X L e c : ℝ) : EReal) := by
  have hw := weights_apply l p (fun k => L (logit k)) (fun k => hl (logit k))
  have hr : ∀ i, row l i (ix2 0 p) = (L i : EReal) := fun i => (row_apply l i p).trans (hl i)
  have hxr : ∀ c, xrow x c (ix2 0 p) = (X c : EReal) := fun c => (xrow_apply x c p).trans (hx c)
  have c0 : chan0 (F := Ideal) x l (BitVec.ofNat 32 e) (ix2 0 p) = ((step X L e 0 0 0 : ℝ) : EReal) :=
    channel_apply _ _ _ _ p e he _ (h0 0) (h1 0) _ _ _ (hxr 0) hw (fun k => hr _) (fun k => hr _)
  have c1 : ∀ v0 : FVec Ideal S1x1024 .f32, ∀ V0 : ℝ, v0 (ix2 0 p) = (V0 : EReal) →
      chan1 (F := Ideal) x l (BitVec.ofNat 32 e) v0 (ix2 0 p) = ((step X L e 1 V0 0 : ℝ) : EReal) := by
    intro v0 V0 hv
    refine channel_apply _ _ _ _ p e he _ (h0 1) (h1 1) _ _ _ (hxr 1) hw (fun k => ?_) (fun k => hr _)
    pointwise
    rw [hr, hr, hv, Ideal.tanh_coe, ← EReal.coe_mul, ← EReal.coe_add]
    rfl
  have c2 : ∀ v0 v1 : FVec Ideal S1x1024 .f32, ∀ V0 V1 : ℝ, v0 (ix2 0 p) = (V0 : EReal) → v1 (ix2 0 p) = (V1 : EReal) →
      chan2 (F := Ideal) x l (BitVec.ofNat 32 e) v0 v1 (ix2 0 p) = ((step X L e 2 V0 V1 : ℝ) : EReal) := by
    intro v0 v1 V0 V1 hv hv'
    refine channel_apply _ _ _ _ p e he _ (h0 2) (h1 2) _ _ _ (hxr 2) hw (fun k => ?_) (fun k => hr _)
    pointwise
    rw [hr, hr, hr, hv, hv', Ideal.tanh_coe, Ideal.tanh_coe, ← EReal.coe_mul, ← EReal.coe_mul, ← EReal.coe_add, ← EReal.coe_add]
    rfl
  pointwise [block]
  fin_cases c
  · exact c0
  · exact c1 _ _ c0
  · exact c2 _ _ _ _ c0 (c1 _ _ c0)

end Cert.KernelIdeal.Block
-- ==== Proof.KernelRun.lean ====
/- The kernel's run read at one output element: the decoded value of one pixel, over the reals. -/
module

public import proofs.«01_k».proof.Proof.BlockRead
public import Idealize.ShloMosaic.Lib.Pipeline.ValueKit

@[expose] public section

noncomputable section

namespace Cert.KernelIdeal.Run

open Idealize.ShloMosaic Idealize.ShloMosaic.TcCoe Idealize.SL.Sem Cert.KernelIdeal Cert.KernelIdeal.Facts Cert.KernelIdeal.Gen Cert.KernelIdeal.Block
open Idealize.ShloMosaic.Pipeline (Dat)

variable (m : (ℓ : Loc nD τ sig) → Buf (Elt Ideal) ℓ) (ρ : Dev nD → PrngReg)

/-- A launch point is an image: the block index of every window. -/
theorem idx : ∀ t : Fin grid0.N,
    (win0_0.index t 0 = t.val ∧ win0_0.index t 1 = 0 ∧ win0_0.index t 2 = 0)
    ∧ (win0_1.index t 0 = t.val ∧ win0_1.index t 1 = 0 ∧ win0_1.index t 2 = 0)
    ∧ win0_2.index t 0 = 0
    ∧ (win0_3.index t 0 = t.val ∧ win0_3.index t 1 = 0 ∧ win0_3.index t 2 = 0) := by
  decide +kernel

/-- The image a launch point decodes. -/
def image (t : Fin grid0.N) : Fin 16 := ⟨t.val, t.isLt⟩

/-- Pixel `p` of an image lies in row `p / 32`. -/
def prow (p : Fin 1024) : Fin 32 := ⟨p.val / 32, by omega⟩
/-- Pixel `p` of an image lies in column `p % 32`. -/
def pcol (p : Fin 1024) : Fin 32 := ⟨p.val % 32, by omega⟩

/-- The region finds the pixels with rows and columns merged. -/
theorem V_x (c : Dev nD) : V m c main_v0 = shapeCast S16x3x1024 (m ((c : Thread nD τ).loc main_arg0)) shapeCasts_S16x3x32x32_S16x3x1024 := by
  entry_read
  rfl
theorem V_l (c : Dev nD) : V m c main_v1 = shapeCast S16x100x1024 (m ((c : Thread nD τ).loc main_arg1)) shapeCasts_S16x100x32x32_S16x100x1024 := by
  entry_read
  rfl
theorem V_e (c : Dev nD) : V m c main_v2 = shapeCast S1 (m ((c : Thread nD τ).loc main_arg2)) shapeCasts_S_S1 := by
  entry_read
  rfl

theorem iblk0_apply (c : Dev nD) (t : Fin cfg0.N) (i : Fin 3) (p : Fin 1024) :
    iblk m c 0 t (ix3 0 i p) = m ((c : Thread nD τ).loc main_arg0) (ix4 (image t) i (prow p) (pcol p)) := by
  obtain ⟨h0, -, -, -⟩ := idx t
  have e : ((cfg0.win 0).blk t).view.emb (ix3 0 i p) = (ix3 (image t) i p : S16x3x1024.Idx) := by
    blk_ext [h0.1, h0.2.1, h0.2.2, image]
  show V m c main_v0 (((cfg0.win 0).blk t).view.emb (ix3 0 i p)) = _
  rw [e, V_x]
  pointwise
  rfl

theorem iblk1_apply (c : Dev nD) (t : Fin cfg0.N) (i : Fin 100) (p : Fin 1024) :
    iblk m c 1 t (ix3 0 i p) = m ((c : Thread nD τ).loc main_arg1) (ix4 (image t) i (prow p) (pcol p)) := by
  obtain ⟨-, h0, -, -⟩ := idx t
  have e : ((cfg0.win 1).blk t).view.emb (ix3 0 i p) = (ix3 (image t) i p : S16x100x1024.Idx) := by
    blk_ext [h0.1, h0.2.1, h0.2.2, image]
  show V m c main_v1 (((cfg0.win 1).blk t).view.emb (ix3 0 i p)) = _
  rw [e, V_l]
  pointwise
  rfl

/-- The box's half width, as every launch point reads it. -/
theorem iblk2_apply (c : Dev nD) (t : Fin cfg0.N) :
    View.ld (iblk m c 2 t) (Rect.unit ![0] S1.size inb_S1_S1_0) (Shape.Idx.first numel1_S1.ge) = m ((c : Thread nD τ).loc main_arg2) ix0 := by
  show V m c main_v2 _ = _
  rw [V_e]
  show m ((c : Thread nD τ).loc main_arg2) _ = _
  congr 1

theorem flushed (c : Dev nD) (b : Fin 16) (i : Fin 3) (p : Fin 1024) :
    (dats m 0 c).arrAt 3 cfg0.N (ix3 b i p : S16x3x1024.Idx) = outsAt0 m c ⟨b.val, b.isLt⟩ (ix3 0 i p) := by
  obtain ⟨-, -, -, h0⟩ := idx ⟨b.val, b.isLt⟩
  have e : ((cfg0.win 3).blk ⟨b.val, b.isLt⟩).view.emb (ix3 0 i p) = (ix3 b i p : S16x3x1024.Idx) := by
    blk_ext [h0.1, h0.2.1, h0.2.2]
  have := (dats m 0 c).arrAt_emb_eq_flushed 3 (Pipeline.Window.hdisj_of_index_inj _ (by decide +kernel)) ⟨b.val, b.isLt⟩ (flush0_3 _) (ix3 0 i p)
  rw [e] at this
  refine this.trans ?_
  rw [← after0_3]
  rfl

/-- A launch point's block at an element: the decoded value. -/
theorem outsAt_apply (c : Dev nD) (t : Fin cfg0.N) (e : ℕ) (he : e < 20) (X : Fin 16 → Fin 3 → Fin 32 → Fin 32 → ℝ) (L : Fin 16 → Fin 100 → Fin 32 → Fin 32 → ℝ)
    (hx : ∀ b i h w, m ((c : Thread nD τ).loc main_arg0) (ix4 b i h w) = (X b i h w : EReal))
    (h0 : ∀ b i h w, -1 ≤ X b i h w) (h1 : ∀ b i h w, X b i h w ≤ 1)
    (hl : ∀ b i h w, m ((c : Thread nD τ).loc main_arg1) (ix4 b i h w) = (L b i h w : EReal))
    (hE : m ((c : Thread nD τ).loc main_arg2) ix0 = BitVec.ofNat 32 e) (i : Fin 3) (p : Fin 1024) :
    outsAt0 m c t (ix3 0 i p)
      = ((Decode.pixel (fun k => X (image t) k (prow p) (pcol p)) (fun k => L (image t) k (prow p) (pcol p)) e i : ℝ) : EReal) := by
  rw [outsAt_eq, iblk2_apply, hE, View.canon_unit_zero (by funext a; fin_cases a <;> rfl)]
  exact block_apply _ _ e he p _ _ (fun k => (iblk0_apply m c t k p).trans (hx ..)) (fun k => h0 ..) (fun k => h1 ..)
    (fun k => (iblk1_apply m c t k p).trans (hl ..)) i

/-- The result buffer at an element: the decoded value. -/
theorem result_apply (c : Dev nD) (e : ℕ) (he : e < 20) (X : Fin 16 → Fin 3 → Fin 32 → Fin 32 → ℝ) (L : Fin 16 → Fin 100 → Fin 32 → Fin 32 → ℝ)
    (hx : ∀ b i h w, m ((c : Thread nD τ).loc main_arg0) (ix4 b i h w) = (X b i h w : EReal))
    (h0 : ∀ b i h w, -1 ≤ X b i h w) (h1 : ∀ b i h w, X b i h w ≤ 1)
    (hl : ∀ b i h w, m ((c : Thread nD τ).loc main_arg1) (ix4 b i h w) = (L b i h w : EReal))
    (hE : m ((c : Thread nD τ).loc main_arg2) ix0 = BitVec.ofNat 32 e) (b : Fin 16) (i : Fin 3) (h w : Fin 32) :
    Pipeline.afterTail₀ cfgs (dats m) 0 (V0 m) [hostOps1] c main_v4 (ix4 b i h w)
      = ((Decode.pixel (fun k => X b k h w) (fun k => L b k h w) e i : ℝ) : EReal) := by
  have hv : Pipeline.afterTail₀ cfgs (dats m) 0 (V0 m) [hostOps1] c main_v4
      = shapeCast S16x3x32x32 ((dats m 0 c).arrAt 3 cfg0.N) shapeCasts_S16x3x1024_S16x3x32x32 := by
    unfold Pipeline.afterTail₀
    simp only [List.flatten_cons, List.flatten_nil, List.append_nil]
    after_results
    exact congrArg (fun A : Vec Ideal S16x3x1024 .f32 => shapeCast S16x3x32x32 A shapeCasts_S16x3x1024_S16x3x32x32)
      (Pipeline.withArrays_arr spec0 (by decide) c (V0 m c) (fun w => (dats m 0 c).arrAt w (cfgs 0).N) 3)
  rw [hv]
  pointwise
  rw [flushed, outsAt_apply m c _ e he X L hx h0 h1 hl hE]
  have hr : prow ⟨h.val * 32 + w.val, by omega⟩ = h := by apply Fin.ext; simp only [prow]; omega
  have hc : pcol ⟨h.val * 32 + w.val, by omega⟩ = w := by apply Fin.ext; simp only [pcol]; omega
  rw [hr, hc]
  rfl

/-- The run: the result holds the decoded values and the arguments are unchanged. -/
theorem run : θ_run defs (onTc (τ := τ) (main (F := Ideal))) ⟨m, fun _ => 0, ρ⟩ fun r => ∀ c : Dev nD,
      r.2.mem ((c : Thread nD τ).loc main_v4) = Pipeline.afterTail₀ cfgs (dats m) 0 (V0 m) [hostOps1] c main_v4
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h.1 c).2 main_v4 (Pipeline.mem_restRefs_of main_v4 (by decide) (by decide)), h.2 c⟩)
    (θ_run_and (run_main m ρ) (unchanged m ρ))

end Cert.KernelIdeal.Run
-- ==== Proof.RefStep.lean ====
/- The reference written as the few functions of whole arrays that its text repeats three times, once per channel:
   the means, the logarithms of the masses, the penalized logits, the best bin, and the channels put together. -/
module

public import proofs.«01_k».proof.Proof.Gen.ReferenceIdeal

@[expose] public section

noncomputable section

namespace Cert.ReferenceIdeal.Step

open Cert.ReferenceIdeal Cert.ReferenceIdeal.Facts Cert.ReferenceIdeal.Gen Idealize.ShloMosaic Idealize.SL.Sem Idealize.ShloMosaic.StableHlo

variable {F : FTy → Type} [FloatOps F]

/-- Channel 0's parameter of every component. -/
def par0 (v : FVec F S16x32x32x3x10 .f32) : FVec F S16x32x32x10 .f32 :=
  shapeCast _ (extractStridedSlice S16x32x32x1x10 ![0, 0, 0, 0, 0] v slices_S16x32x32x3x10_S16x32x32x1x10_0_0_0_0_0) shapeCasts_S16x32x32x1x10_S16x32x32x10

/-- Channel 1's parameter of every component. -/
def par1 (v : FVec F S16x32x32x3x10 .f32) : FVec F S16x32x32x10 .f32 :=
  shapeCast _ (extractStridedSlice S16x32x32x1x10 ![0, 0, 0, 1, 0] v slices_S16x32x32x3x10_S16x32x32x1x10_0_0_0_1_0) shapeCasts_S16x32x32x1x10_S16x32x32x10

/-- Channel 2's parameter of every component. -/
def par2 (v : FVec F S16x32x32x3x10 .f32) : FVec F S16x32x32x10 .f32 :=
  shapeCast _ (extractStridedSlice S16x32x32x1x10 ![0, 0, 0, 2, 0] v slices_S16x32x32x3x10_S16x32x32x1x10_0_0_0_2_0) shapeCasts_S16x32x32x1x10_S16x32x32x10

/-- Channel 0 of the pixels. -/
def pix0 (x : FVec F S16x32x32x3 .f32) : FVec F S16x32x32 .f32 :=
  shapeCast _ (extractStridedSlice S16x32x32x1 ![0, 0, 0, 0] x slices_S16x32x32x3_S16x32x32x1_0_0_0_0) shapeCasts_S16x32x32x1_S16x32x32

/-- Channel 1 of the pixels. -/
def pix1 (x : FVec F S16x32x32x3 .f32) : FVec F S16x32x32 .f32 :=
  shapeCast _ (extractStridedSlice S16x32x32x1 ![0, 0, 0, 1] x slices_S16x32x32x3_S16x32x32x1_0_0_0_1) shapeCasts_S16x32x32x1_S16x32x32

/-- Channel 2 of the pixels. -/
def pix2 (x : FVec F S16x32x32x3 .f32) : FVec F S16x32x32 .f32 :=
  shapeCast _ (extractStridedSlice S16x32x32x1 ![0, 0, 0, 2] x slices_S16x32x32x3_S16x32x32x1_0_0_0_2) shapeCasts_S16x32x32x1_S16x32x32

/-- A channel of the pixels beside every component. -/
def along (v : FVec F S16x32x32 .f32) : FVec F S16x32x32x10 .f32 :=
  broadcastInDim S16x32x32x10 ![0, 1, 2, 3] bcast_S16x32x32x1_S16x32x32x10_0_1_2_3 (broadcastInDim S16x32x32x1 ![0, 1, 2] bcast_S16x32x32_S16x32x32x1_0_1_2 v)

/-- The means of the three channels' components, given the pixels. -/
def means (me co : FVec F S16x32x32x3x10 .f32) (x : FVec F S16x32x32x3 .f32) : FVec F S16x32x32x3x10 .f32 :=
  let m1 : FVec F S16x32x32x10 .f32 := par0 me
  let m2 : FVec F S16x32x32x10 .f32 := addf (par1 me) (mulf (par0 co) (along (pix0 x)))
  let m3 : FVec F S16x32x32x10 .f32 := addf (addf (par2 me) (mulf (par1 co) (along (pix0 x)))) (mulf (par2 co) (along (pix1 x)))
  concatenate S16x32x32x3x10 3 [⟨S16x32x32x1x10, broadcastInDim S16x32x32x1x10 ![0, 1, 2, 4] bcast_S16x32x32x10_S16x32x32x1x10_0_1_2_4 m1⟩,
    ⟨S16x32x32x1x10, broadcastInDim S16x32x32x1x10 ![0, 1, 2, 4] bcast_S16x32x32x10_S16x32x32x1x10_0_1_2_4 m2⟩,
    ⟨S16x32x32x1x10, broadcastInDim S16x32x32x1x10 ![0, 1, 2, 4] bcast_S16x32x32x10_S16x32x32x1x10_0_1_2_4 m3⟩]
    concatenates_S16x32x32x1x10_S16x32x32x1x10_S16x32x32x1x10_S16x32x32x3x10_d3

/-- The softplus function, as the reference computes it, on an array of any shape whose zeros are `z`. -/
def softplus {S : Shape} (z x : FVec F S .f32) : FVec F S .f32 :=
  select (cmpf .une (subf x z) (subf x z)) (addf x z) (addf (maximumf x z) (Host.log1p (Host.exp (Host.negf (Host.absf (subf x z))))))

/-- One number for every component. -/
def all10 (v : FVec F S_ .f32) : FVec F S16x32x32x3x10 .f32 := broadcastInDim S16x32x32x3x10 ![] bcast_S_S16x32x32x3x10 v

/-- One number for every component and interior bin. -/
def all254 (v : FVec F S_ .f32) : FVec F S16x32x32x3x10x254 .f32 := broadcastInDim S16x32x32x3x10x254 ![] bcast_S_S16x32x32x3x10x254 v

/-- One number for every component and edge. -/
def all255 (v : FVec F S_ .f32) : FVec F S16x32x32x3x10x255 .f32 := broadcastInDim S16x32x32x3x10x255 ![] bcast_S_S16x32x32x3x10x255 v

/-- A trailing axis of size one. -/
def tail1 (v : FVec F S16x32x32x3x10 .f32) : FVec F S16x32x32x3x10x1 .f32 :=
  broadcastInDim S16x32x32x3x10x1 ![0, 1, 2, 3, 4] bcast_S16x32x32x3x10_S16x32x32x3x10x1_0_1_2_3_4 v

/-- A component's number beside every interior bin. -/
def on254 (v : FVec F S16x32x32x3x10 .f32) : FVec F S16x32x32x3x10x254 .f32 :=
  broadcastInDim S16x32x32x3x10x254 ![0, 1, 2, 3, 4, 5] bcast_S16x32x32x3x10x1_S16x32x32x3x10x254_0_1_2_3_4_5 (tail1 v)

/-- A component's number beside every edge. -/
def on255 (v : FVec F S16x32x32x3x10 .f32) : FVec F S16x32x32x3x10x255 .f32 :=
  broadcastInDim S16x32x32x3x10x255 ![0, 1, 2, 3, 4, 5] bcast_S16x32x32x3x10x1_S16x32x32x3x10x255_0_1_2_3_4_5 (tail1 v)

/-- The distribution function at every edge. -/
def cdfs (M iv : FVec F S16x32x32x3x10 .f32) (edges : FVec F S255 .f32) : FVec F S16x32x32x3x10x255 .f32 :=
  let z : FVec F S16x32x32x3x10x255 .f32 := mulf (subf (broadcastInDim S16x32x32x3x10x255 ![0, 1, 2, 3, 4, 5] bcast_S1x1x1x1x1x255_S16x32x32x3x10x255_0_1_2_3_4_5
    (broadcastInDim S1x1x1x1x1x255 ![5] bcast_S255_S1x1x1x1x1x255_5 edges)) (on255 M)) (on255 iv)
  Host.divf (all255 (constant S_ .f32 0x3F800000#32)) (addf (all255 (constant S_ .f32 0x3F800000#32)) (Host.exp (Host.negf z)))

/-- The mass of every interior bin. -/
def pdfs (M iv : FVec F S16x32x32x3x10 .f32) (edges : FVec F S255 .f32) : FVec F S16x32x32x3x10x254 .f32 :=
  subf (extractStridedSlice S16x32x32x3x10x254 ![0, 0, 0, 0, 0, 1] (cdfs M iv edges) slices_S16x32x32x3x10x255_S16x32x32x3x10x254_0_0_0_0_0_1)
    (extractStridedSlice S16x32x32x3x10x254 ![0, 0, 0, 0, 0, 0] (cdfs M iv edges) slices_S16x32x32x3x10x255_S16x32x32x3x10x254_0_0_0_0_0_0)

/-- The scaled distance of every interior bin's middle from the mean. -/
def mid (M iv : FVec F S16x32x32x3x10 .f32) (mids : FVec F S254 .f32) : FVec F S16x32x32x3x10x254 .f32 :=
  mulf (on254 iv) (subf (broadcastInDim S16x32x32x3x10x254 ![0, 1, 2, 3, 4, 5] bcast_S1x1x1x1x1x254_S16x32x32x3x10x254_0_1_2_3_4_5
    (broadcastInDim S1x1x1x1x1x254 ![5] bcast_S254_S1x1x1x1x1x254_5 mids)) (on254 M))

/-- The logarithm of the density at every interior bin's middle. -/
def midLog (M ls iv : FVec F S16x32x32x3x10 .f32) (mids : FVec F S254 .f32) : FVec F S16x32x32x3x10x254 .f32 :=
  subf (subf (mid M iv mids) (on254 ls))
    (mulf (all254 (constant S_ .f32 0x40000000#32)) (softplus (all254 (constant S_ .f32 0x00000000#32)) (mid M iv mids)))

/-- The logarithm of what the component gives every interior bin. -/
def inner (M ls iv : FVec F S16x32x32x3x10 .f32) (edges : FVec F S255 .f32) (mids : FVec F S254 .f32) : FVec F S16x32x32x3x10x254 .f32 :=
  select (cmpf .ogt (pdfs M iv edges) (all254 (constant S_ .f32 0x3727C5AC#32)))
    (Host.log (maximumf (all254 (constant S_ .f32 0x2B8CBCCC#32)) (pdfs M iv edges)))
    (subf (midLog M ls iv mids) (all254 (Host.log (constant S_ .f32 0x42FF0000#32))))

/-- The scaled distance of the lowest edge from the mean. -/
def first (M iv : FVec F S16x32x32x3x10 .f32) (edges : FVec F S255 .f32) : FVec F S16x32x32x3x10 .f32 :=
  mulf (subf (all10 (shapeCast _ (extractStridedSlice S1 ![0] edges slices_S255_S1_0) shapeCasts_S1_S_)) M) iv

/-- The scaled distance of the highest edge from the mean. -/
def last (M iv : FVec F S16x32x32x3x10 .f32) (edges : FVec F S255 .f32) : FVec F S16x32x32x3x10 .f32 :=
  mulf (subf (all10 (shapeCast _ (extractStridedSlice S1 ![254] edges slices_S255_S1_254) shapeCasts_S1_S_)) M) iv

/-- The logarithm of what the component gives every bin. -/
def logs (M ls iv : FVec F S16x32x32x3x10 .f32) (edges : FVec F S255 .f32) (mids : FVec F S254 .f32) : FVec F S16x32x32x3x10x256 .f32 :=
  concatenate S16x32x32x3x10x256 5
    [⟨S16x32x32x3x10x1, tail1 (subf (first M iv edges) (softplus (all10 (constant S_ .f32 0x00000000#32)) (first M iv edges)))⟩,
     ⟨S16x32x32x3x10x254, inner M ls iv edges mids⟩,
     ⟨S16x32x32x3x10x1, tail1 (Host.negf (softplus (all10 (constant S_ .f32 0x00000000#32)) (last M iv edges)))⟩]
    concatenates_S16x32x32x3x10x1_S16x32x32x3x10x254_S16x32x32x3x10x1_S16x32x32x3x10x256_d5

/-- The logarithm of the mixture's mass in every bin, less the penalty. -/
def logits (lw : FVec F S16x32x32x10 .f32) (cells : FVec F S16x32x32x3x10x256 .f32) (pen : FVec F S16x32x32x3x256 .f32) : FVec F S16x32x32x3x256 .f32 :=
  subf (Host.log (Host.reduceAdd (Host.exp (addf cells (broadcastInDim S16x32x32x3x10x256 ![0, 1, 2, 3, 4, 5] bcast_S16x32x32x1x10x1_S16x32x32x3x10x256_0_1_2_3_4_5
    (broadcastInDim S16x32x32x1x10x1 ![0, 1, 2, 4] bcast_S16x32x32x10_S16x32x32x1x10x1_0_1_2_4 lw)))) (constant S_ .f32 0x00000000#32)
    reducesTo_S16x32x32x3x10x256_S16x32x32x3x256_d4 h_S_)) pen

/-- The least bin at which the logits are the greatest, decoded. -/
def pick (t : IVec S256 32) (g : FVec F S16x32x32x3x256 .f32) : FVec F S16x32x32x3 .f32 :=
  let top : FVec F S16x32x32x3x256 .f32 := broadcastInDim S16x32x32x3x256 ![0, 1, 2, 3, 4] bcast_S16x32x32x3x1_S16x32x32x3x256_0_1_2_3_4
    (broadcastInDim S16x32x32x3x1 ![0, 1, 2, 3] bcast_S16x32x32x3_S16x32x32x3x1_0_1_2_3
      (Host.reduce FloatOps.maximumf g (constant S_ .f32 0xFF800000#32) reducesTo_S16x32x32x3x256_S16x32x32x3_d4 h_S_))
  let places : IVec S16x32x32x3x256 32 := select (cmpf .oeq g top) (broadcastInDim S16x32x32x3x256 ![4] bcast_S256_S16x32x32x3x256_4 t)
    (broadcastInDim S16x32x32x3x256 ![] bcast_S_S16x32x32x3x256 (constantI S_ 32 256#32))
  let least : IVec S16x32x32x3 32 := Host.reduce IntOp.minsi places (constantI S_ 32 2147483647#32) reducesTo_S16x32x32x3x256_S16x32x32x3_d4 h_S_
  let half : FVec F S16x32x32x3 .f32 := broadcastInDim S16x32x32x3 ![] bcast_S_S16x32x32x3 (constant S_ .f32 0x42FF0000#32)
  Host.divf (subf (sitofp .f32 least) half) half

/-- Every channel decoded, each as if the channels before it were given by `x`. -/
def pass (lw : FVec F S16x32x32x10 .f32) (me ls co : FVec F S16x32x32x3x10 .f32) (edges : FVec F S255 .f32) (mids : FVec F S254 .f32)
    (pen : FVec F S16x32x32x3x256 .f32) (t : IVec S256 32) (x : FVec F S16x32x32x3 .f32) : FVec F S16x32x32x3 .f32 :=
  pick t (logits lw (logs (means me co x) ls (Host.exp (Host.negf ls)) edges mids) pen)

/-- Three channels put together. -/
def stack (a b c : FVec F S16x32x32 .f32) : FVec F S16x32x32x3 .f32 :=
  concatenate S16x32x32x3 3 [⟨S16x32x32x1, broadcastInDim S16x32x32x1 ![0, 1, 2] bcast_S16x32x32_S16x32x32x1_0_1_2 a⟩,
    ⟨S16x32x32x1, broadcastInDim S16x32x32x1 ![0, 1, 2] bcast_S16x32x32_S16x32x32x1_0_1_2 b⟩,
    ⟨S16x32x32x1, broadcastInDim S16x32x32x1 ![0, 1, 2] bcast_S16x32x32_S16x32x32x1_0_1_2 c⟩]
    concatenates_S16x32x32x1_S16x32x32x1_S16x32x32x1_S16x32x32x3_d3

/-- The pixels with channel after channel decoded. -/
def decoded (p : FVec F S16x32x32x3 .f32 → FVec F S16x32x32x3 .f32) (x : FVec F S16x32x32x3 .f32) : FVec F S16x32x32x3 .f32 :=
  let x0 := p x
  let x1 := p (stack (pix0 x0) (pix1 x) (pix2 x))
  stack (pix0 x0) (pix1 x1) (pix2 (p (stack (pix0 x0) (pix1 x1) (pix2 x))))

/-- The pixels, channel last. -/
def pixels (x : FVec F S16x3x32x32 .f32) : FVec F S16x32x32x3 .f32 := transpose S16x32x32x3 [0, 2, 3, 1] x transposes_S16x3x32x32_S16x32x32x3_0_2_3_1

/-- The mixture's parameters, parameter last. -/
def params (l : FVec F S16x100x32x32 .f32) : FVec F S16x32x32x100 .f32 := transpose S16x32x32x100 [0, 2, 3, 1] l transposes_S16x100x32x32_S16x32x32x100_0_2_3_1

/-- The parameters of the three channels. -/
def rest (l : FVec F S16x100x32x32 .f32) : FVec F S16x32x32x3x30 .f32 :=
  shapeCast _ (extractStridedSlice S16x32x32x90 ![0, 0, 0, 10] (params l) slices_S16x32x32x100_S16x32x32x90_0_0_0_10) shapeCasts_S16x32x32x90_S16x32x32x3x30

/-- The logits of the weights. -/
def weightLogits (l : FVec F S16x100x32x32 .f32) : FVec F S16x32x32x10 .f32 :=
  extractStridedSlice S16x32x32x10 ![0, 0, 0, 0] (params l) slices_S16x32x32x100_S16x32x32x10_0_0_0_0

/-- A pixel's number beside every component. -/
def beside (v : FVec F S16x32x32x1 .f32) : FVec F S16x32x32x10 .f32 :=
  broadcastInDim S16x32x32x10 ![0, 1, 2, 3] bcast_S16x32x32x1_S16x32x32x10_0_1_2_3 v

/-- The logits less the greatest of them. -/
def shifted (l : FVec F S16x100x32x32 .f32) : FVec F S16x32x32x10 .f32 :=
  subf (weightLogits l) (beside (broadcastInDim S16x32x32x1 ![0, 1, 2] bcast_S16x32x32_S16x32x32x1_0_1_2
    (maximumf (broadcastInDim S16x32x32 ![] bcast_S_S16x32x32 (constant S_ .f32 0xFF800000#32))
      (Host.reduce FloatOps.maximumf (weightLogits l) (constant S_ .f32 0xFF800000#32) reducesTo_S16x32x32x10_S16x32x32_d3 h_S_))))

/-- The logarithms of the weights. -/
def logWeights (l : FVec F S16x100x32x32 .f32) : FVec F S16x32x32x10 .f32 :=
  subf (shifted l) (beside (Host.log (broadcastInDim S16x32x32x1 ![0, 1, 2] bcast_S16x32x32_S16x32x32x1_0_1_2
    (Host.reduceAdd (Host.exp (shifted l)) (constant S_ .f32 0x00000000#32) reducesTo_S16x32x32x10_S16x32x32_d3 h_S_))))

/-- The means before the channels are tied together. -/
def rawMeans (l : FVec F S16x100x32x32 .f32) : FVec F S16x32x32x3x10 .f32 :=
  extractStridedSlice S16x32x32x3x10 ![0, 0, 0, 0, 0] (rest l) slices_S16x32x32x3x30_S16x32x32x3x10_0_0_0_0_0

/-- The logarithms of the scales. -/
def scales (l : FVec F S16x100x32x32 .f32) : FVec F S16x32x32x3x10 .f32 :=
  maximumf (all10 (constant S_ .f32 0xC0E00000#32)) (extractStridedSlice S16x32x32x3x10 ![0, 0, 0, 0, 10] (rest l) slices_S16x32x32x3x30_S16x32x32x3x10_0_0_0_0_10)

/-- The coefficients that tie the channels together. -/
def coeffs (l : FVec F S16x100x32x32 .f32) : FVec F S16x32x32x3x10 .f32 :=
  Host.tanh (extractStridedSlice S16x32x32x3x10 ![0, 0, 0, 0, 20] (rest l) slices_S16x32x32x3x30_S16x32x32x3x10_0_0_0_0_20)

/-- The edges between the bins. -/
def edges : FVec F S255 .f32 :=
  subf (Host.divf (sitofp .f32 (addi (broadcastInDim S255 ![] bcast_S_S255 (constantI S_ 32 1#32)) (iotaInDim S255 32 0)))
    (broadcastInDim S255 ![] bcast_S_S255 (constant S_ .f32 0x43000000#32))) (broadcastInDim S255 ![] bcast_S_S255 (constant S_ .f32 0x3F800000#32))

/-- The middles of the interior bins. -/
def mids : FVec F S254 .f32 :=
  subf (Host.divf (sitofp .f32 (addi (muli (broadcastInDim S254 ![] bcast_S_S254 (constantI S_ 32 2#32))
    (addi (broadcastInDim S254 ![] bcast_S_S254 (constantI S_ 32 1#32)) (iotaInDim S254 32 0))) (broadcastInDim S254 ![] bcast_S_S254 (constantI S_ 32 1#32))))
    (broadcastInDim S254 ![] bcast_S_S254 (constant S_ .f32 0x43800000#32))) (broadcastInDim S254 ![] bcast_S_S254 (constant S_ .f32 0x3F800000#32))

/-- The bins' numbers. -/
def bins : IVec S256 32 := iotaInDim S256 32 0

/-- The pixels' bins. -/
def recovered (x : FVec F S16x32x32x3 .f32) : IVec S16x32x32x3 32 :=
  fptosi 32 (addf (mulf x (broadcastInDim S16x32x32x3 ![] bcast_S_S16x32x32x3 (constant S_ .f32 0x42FF0000#32)))
    (broadcastInDim S16x32x32x3 ![] bcast_S_S16x32x32x3 (constant S_ .f32 0x42FF0000#32)))

/-- The box's lowest bins. -/
def lower (x : FVec F S16x32x32x3 .f32) (e : IVec S_ 32) : IVec S16x32x32x3 32 :=
  maxsi (broadcastInDim S16x32x32x3 ![] bcast_S_S16x32x32x3 (constantI S_ 32 0#32)) (subi (recovered x) (broadcastInDim S16x32x32x3 ![] bcast_S_S16x32x32x3 e))

/-- The box's highest bins. -/
def upper (x : FVec F S16x32x32x3 .f32) (e : IVec S_ 32) : IVec S16x32x32x3 32 :=
  minsi (broadcastInDim S16x32x32x3 ![] bcast_S_S16x32x32x3 (constantI S_ 32 255#32)) (addi (recovered x) (broadcastInDim S16x32x32x3 ![] bcast_S_S16x32x32x3 e))

/-- The bins' numbers beside every pixel and channel. -/
def everyBin : IVec S16x32x32x3x256 32 :=
  broadcastInDim S16x32x32x3x256 ![0, 1, 2, 3, 4] bcast_S1x1x1x1x256_S16x32x32x3x256_0_1_2_3_4 (broadcastInDim S1x1x1x1x256 ![4] bcast_S256_S1x1x1x1x256_4 bins)

/-- A pixel's and channel's word beside every bin. -/
def perBin (v : IVec S16x32x32x3 32) : IVec S16x32x32x3x256 32 :=
  broadcastInDim S16x32x32x3x256 ![0, 1, 2, 3, 4] bcast_S16x32x32x3x1_S16x32x32x3x256_0_1_2_3_4
    (broadcastInDim S16x32x32x3x1 ![0, 1, 2, 3] bcast_S16x32x32x3_S16x32x32x3x1_0_1_2_3 v)

/-- What is taken off the bins outside the box. -/
def penalty (x : FVec F S16x32x32x3 .f32) (e : IVec S_ 32) : FVec F S16x32x32x3x256 .f32 :=
  mulf (uitofp .f32 (ori (cmpi .slt everyBin (perBin (lower x e))) (cmpi .sgt everyBin (perBin (upper x e)))))
    (broadcastInDim S16x32x32x3x256 ![] bcast_S_S16x32x32x3x256 (constant S_ .f32 0x7149F2CA#32))

/-- The whole reference. -/
def result (x : FVec F S16x3x32x32 .f32) (l : FVec F S16x100x32x32 .f32) (e : IVec S_ 32) : FVec F S16x3x32x32 .f32 :=
  transpose S16x3x32x32 [0, 3, 1, 2]
    (decoded (pass (logWeights l) (rawMeans l) (scales l) (coeffs l) edges mids (penalty (pixels x) e) bins) (pixels x))
    transposes_S16x32x32x3_S16x3x32x32_0_3_1_2

end Cert.ReferenceIdeal.Step
-- ==== Proof.Bounds.lean ====
/- How large and how small the mixture's mass in a bin can be: the logarithm stays so far from the penalty that no
   bin outside the box is ever the best one. -/
module

public import proofs.«01_k».proof.Proof.Math

@[expose] public section

noncomputable section

namespace Decode

/-- The bound on a parameter's absolute value. -/
def far : ℝ := 101 * 10 ^ 24

theorem exp_seven : Real.exp 7 ≤ 2187 := by
  have e : Real.exp 7 = Real.exp (1 / 6) ^ 42 := by rw [← Real.exp_nat_mul]; norm_num
  have h : Real.exp (1 / 6) ≤ 6 / 5 := by
    have h1 : (5 / 6 : ℝ) ≤ Real.exp (-(1 / 6)) := by linarith [Real.add_one_le_exp (-(1 / 6) : ℝ)]
    rw [Real.exp_neg] at h1
    rw [← inv_inv (Real.exp (1 / 6))]
    exact (inv_anti₀ (by norm_num) h1).trans (by norm_num)
  rw [e]
  calc Real.exp (1 / 6) ^ 42 ≤ (6 / 5) ^ 42 := pow_le_pow_left₀ (Real.exp_pos _).le h 42
    _ ≤ 2187 := by norm_num

theorem inv_le (s : ℝ) : inv s ≤ Real.exp 7 := by
  unfold inv
  exact Real.exp_le_exp.2 (by linarith [le_max_right s (-7)])

theorem mass_le_one (m v : ℝ) (t : ℕ) : mass m v t ≤ 1 := by
  unfold mass upto below
  split_ifs <;> linarith [sg_pos ((edge t - m) * v), sg_lt_one ((edge t + 1 / 128 - m) * v)]

theorem contrib_le (m s : ℝ) (t : ℕ) : contrib m (inv s) t ≤ Real.exp 7 := by
  have one : (1 : ℝ) ≤ Real.exp 7 := Real.one_le_exp (by norm_num)
  unfold contrib
  split_ifs
  · have h0 : 0 < mid m (inv s) t := sg_pos _
    have h1 : mid m (inv s) t < 1 := sg_lt_one _
    have hq : mid m (inv s) t * (1 - mid m (inv s) t) ≤ 1 := by nlinarith
    have hq0 : 0 ≤ mid m (inv s) t * (1 - mid m (inv s) t) := mul_nonneg h0.le (by linarith)
    have hv := inv_pos s
    have e : dens m (inv s) t = inv s * (mid m (inv s) t * (1 - mid m (inv s) t) * (2 / 255)) := by unfold dens; ring
    rw [e]
    calc inv s * (mid m (inv s) t * (1 - mid m (inv s) t) * (2 / 255)) ≤ inv s * 1 :=
          mul_le_mul_of_nonneg_left (by linarith) hv.le
      _ ≤ Real.exp 7 := by rw [mul_one]; exact inv_le s
  · exact (mass_le_one _ _ _).trans one

theorem sum_wt (L : Fin 10 → ℝ) : ∑ k, wt L k = 1 := by
  unfold wt
  rw [← Finset.sum_div, div_self (sum_exp_pos L).ne']

/-- The mixture's mass in a bin is at most `exp 7`. -/
theorem log_score_le (L m s : Fin 10 → ℝ) (t : ℕ) : Real.log (score L m s t) ≤ 7 := by
  rw [Real.log_le_iff_le_exp (score_pos L m s t)]
  unfold score
  calc ∑ k, wt L k * contrib (m k) (inv (s k)) t ≤ ∑ k, wt L k * Real.exp 7 :=
        Finset.sum_le_sum fun k _ => mul_le_mul_of_nonneg_left (contrib_le _ _ _) (wt_pos L k).le
    _ = Real.exp 7 := by rw [← Finset.sum_mul, sum_wt, one_mul]

/-- The softplus function is at most one more than the absolute value. -/
theorem softplus_le (x : ℝ) : Real.log (1 + Real.exp x) ≤ 1 + |x| := by
  rw [Real.log_le_iff_le_exp (by positivity)]
  have h1 : Real.exp x ≤ Real.exp |x| := Real.exp_le_exp.2 (le_abs_self x)
  have h2 : 1 ≤ Real.exp |x| := Real.one_le_exp (abs_nonneg x)
  have h3 : (2 : ℝ) ≤ Real.exp 1 := by linarith [Real.add_one_le_exp (1 : ℝ)]
  rw [Real.exp_add]
  nlinarith

/-- A scaled distance is at most the greatest inverse scale times the greatest distance. -/
theorem abs_scaled {m : ℝ} (hm : |m| ≤ far + 2) (s : ℝ) {d : ℝ} (hd : |d| ≤ 1) : |(d - m) * inv s| ≤ 2187 * (far + 3) := by
  rw [abs_mul, abs_of_pos (inv_pos s), mul_comm]
  have h1 : |d - m| ≤ far + 3 := by linarith [abs_sub d m]
  exact mul_le_mul ((inv_le s).trans exp_seven) h1 (abs_nonneg _) (by norm_num)

theorem log_wt_ge (L : Fin 10 → ℝ) (h : ∀ k, |L k| ≤ far) (k : Fin 10) : -(2 * far + 10) ≤ Real.log (wt L k) := by
  have hs : ∑ j, Real.exp (L j) ≤ 10 * Real.exp far := by
    calc ∑ j, Real.exp (L j) ≤ ∑ _j : Fin 10, Real.exp far := Finset.sum_le_sum fun j _ => Real.exp_le_exp.2 ((le_abs_self _).trans (h j))
      _ = 10 * Real.exp far := by simp
  have hl : Real.log (∑ j, Real.exp (L j)) ≤ 10 + far := by
    calc Real.log (∑ j, Real.exp (L j)) ≤ Real.log (10 * Real.exp far) := Real.log_le_log (sum_exp_pos L) hs
      _ = Real.log 10 + far := by rw [Real.log_mul (by norm_num) (Real.exp_pos _).ne', Real.log_exp]
      _ ≤ 10 + far := by linarith [Real.log_le_sub_one_of_pos (show (0 : ℝ) < 10 by norm_num)]
  unfold wt
  rw [Real.log_div (Real.exp_pos _).ne' (sum_exp_pos L).ne', Real.log_exp]
  linarith [(abs_le.1 (h k)).1]

theorem log_contrib_ge {m s : ℝ} (hm : |m| ≤ far + 2) (hs : |s| ≤ far) {t : ℕ} (ht : t ≤ 255) :
    -(3 * (2187 * (far + 3)) + far + 1000000) ≤ Real.log (contrib m (inv s) t) := by
  have ht' : (t : ℝ) ≤ 255 := by exact_mod_cast ht
  have ht0 : (0 : ℝ) ≤ t := Nat.cast_nonneg t
  have pf : (0 : ℝ) ≤ far := by unfold far; norm_num
  have pd : ∀ d : ℝ, |d| ≤ 1 → |(d - m) * inv s| ≤ 2187 * (far + 3) := fun d hd => abs_scaled hm s hd
  unfold contrib
  split_ifs with hc
  · rw [← log_dens, mul_comm (inv s)]
    have hu := pd (edge t + 1 / 256) (by unfold edge; rw [abs_le]; constructor <;> linarith)
    have h1 := softplus_le ((edge t + 1 / 256 - m) * inv s)
    have h2 := (abs_le.1 hu).1
    have h3 : max s (-7) ≤ far + 7 := max_le (by linarith [(abs_le.1 hs).2]) (by linarith)
    have h4 : Real.log (255 / 2) ≤ 255 / 2 := by linarith [Real.log_le_sub_one_of_pos (show (0 : ℝ) < 255 / 2 by norm_num)]
    linarith
  · by_cases h0 : t = 0
    · subst h0
      have e : mass m (inv s) 0 = sg ((edge 0 + 1 / 128 - m) * inv s) := by unfold mass upto below; simp
      rw [e, ← sub_softplus]
      have hu := pd (edge 0 + 1 / 128) (by unfold edge; rw [abs_le]; constructor <;> norm_num)
      linarith [softplus_le ((edge 0 + 1 / 128 - m) * inv s), (abs_le.1 hu).1]
    by_cases h255 : t = 255
    · subst h255
      have e : mass m (inv s) 255 = 1 - sg ((edge 255 - m) * inv s) := by unfold mass upto below; simp
      rw [e, ← neg_softplus]
      have hu := pd (edge 255) (by unfold edge; rw [abs_le]; constructor <;> norm_num)
      linarith [softplus_le ((edge 255 - m) * inv s)]
    · have hm' : tiny < mass m (inv s) t := by
        by_contra hh
        exact hc ⟨⟨Nat.pos_of_ne_zero h0, by omega⟩, not_lt.1 hh⟩
      have pt : (1 / 1000000 : ℝ) ≤ tiny := by unfold tiny; norm_num
      have h1 : Real.log (1 / 1000000 : ℝ) ≤ Real.log (mass m (inv s) t) := Real.log_le_log (by norm_num) (by linarith)
      have h2 : Real.log (1 / 1000000 : ℝ) = -Real.log 1000000 := by rw [one_div, Real.log_inv]
      have h3 := Real.log_le_sub_one_of_pos (show (0 : ℝ) < 1000000 by norm_num)
      linarith

/-- The logarithm of the mixture's mass in a bin is above `-7e29`. -/
theorem log_score_ge (L m s : Fin 10 → ℝ) (hL : ∀ k, |L k| ≤ far) (hm : ∀ k, |m k| ≤ far + 2) (hs : ∀ k, |s k| ≤ far) {t : ℕ} (ht : t ≤ 255) :
    -(7 * 10 ^ 29) ≤ Real.log (score L m s t) := by
  have h1 := log_wt_ge L hL 0
  have h2 := log_contrib_ge (hm 0) (hs 0) ht
  have hp := fun k => mul_pos (wt_pos L k) (contrib_pos (inv_pos (s k)) (m := m k) t)
  have h3 : wt L 0 * contrib (m 0) (inv (s 0)) t ≤ score L m s t :=
    Finset.single_le_sum (f := fun k => wt L k * contrib (m k) (inv (s k)) t) (fun k _ => (hp k).le) (Finset.mem_univ 0)
  have h4 := Real.log_le_log (hp 0) h3
  rw [Real.log_mul (wt_pos L 0).ne' (contrib_pos (inv_pos (s 0)) t).ne'] at h4
  have hf : far = 101 * 10 ^ 24 := rfl
  rw [hf] at h1 h2
  norm_num at h1 h2 ⊢
  linarith

end Decode
-- ==== Proof.RefRead.lean ====
/- The reference's functions of whole arrays at an index: on real inputs they give the quantities of `Math`. -/
module

public import proofs.«01_k».proof.Proof.RefStep
public import proofs.«01_k».proof.Proof.Scalars
public import proofs.«01_k».proof.Proof.Bounds

@[expose] public section

noncomputable section

namespace Cert.ReferenceIdeal.Step

open Cert.ReferenceIdeal Cert.ReferenceIdeal.Gen Idealize.ShloMosaic Idealize.SL.Sem Idealize.ShloMosaic.StableHlo Decode

theorem log_real {r : ℝ} (h : 0 < r) : Ideal.log (r : EReal) = ((Real.log r : ℝ) : EReal) := by
  rw [Ideal.log_coe, if_neg (not_le.2 h)]

/-- A channel's means, from the parameters and the pixels. -/
theorem means_apply (me co : FVec Ideal S16x32x32x3x10 .f32) (x : FVec Ideal S16x32x32x3 .f32) (b : Fin 16) (h w : Fin 32) (c : Fin 3) (k : Fin 10) :
    means me co x (ix5 b h w c k) = match c with
      | 0 => me (ix5 b h w 0 k)
      | 1 => me (ix5 b h w 1 k) + co (ix5 b h w 0 k) * x (ix4 b h w 0)
      | 2 => (me (ix5 b h w 2 k) + co (ix5 b h w 1 k) * x (ix4 b h w 0)) + co (ix5 b h w 2 k) * x (ix4 b h w 1) := by
  fin_cases c <;> pointwise [means, par0, par1, par2, pix0, pix1, along]

/-- The softplus function of a real number. -/
theorem softplus_apply {S : Shape} (z x : FVec Ideal S .f32) (i : S.Idx) (X : ℝ) (hz : z i = 0) (hx : x i = (X : EReal)) :
    softplus z x i = ((Real.log (1 + Real.exp X) : ℝ) : EReal) := by
  pointwise [softplus]
  rw [hz, hx, if_neg (by simp), sub_zero, Ideal.absf_def, ← EReal.coe_neg, max_coe, ← EReal.coe_neg, Ideal.exp_coe, ← EReal.coe_zero, max_coe, Ideal.log1p,
    ← EReal.coe_one, ← EReal.coe_add, log_real (by positivity), ← EReal.coe_add]
  exact congrArg _ (softplus_eq X)

/-- The distribution function at an edge. -/
theorem cdfs_apply (M iv : FVec Ideal S16x32x32x3x10 .f32) (edges : FVec Ideal S255 .f32) (b : Fin 16) (h w : Fin 32) (c : Fin 3) (k : Fin 10) (j : Fin 255)
    (m v E : ℝ) (hM : M (ix5 b h w c k) = (m : EReal)) (hv : iv (ix5 b h w c k) = (v : EReal)) (hE : edges (ix1 j) = (E : EReal)) :
    cdfs M iv edges (ix6 b h w c k j) = ((sg ((E - m) * v) : ℝ) : EReal) := by
  pointwise [cdfs, all255, on255, tail1]
  rw [hM, hv, hE, ← EReal.coe_sub, ← EReal.coe_mul, ← EReal.coe_neg, Ideal.exp_coe, ← EReal.coe_one, ← EReal.coe_add, div_eq _ _ (by positivity), one_div]
  rfl

/-- An interior bin's mass. -/
theorem pdfs_apply (M iv : FVec Ideal S16x32x32x3x10 .f32) (edges : FVec Ideal S255 .f32) (b : Fin 16) (h w : Fin 32) (c : Fin 3) (k : Fin 10) (j : Fin 254)
    (m v : ℝ) (hM : M (ix5 b h w c k) = (m : EReal)) (hv : iv (ix5 b h w c k) = (v : EReal))
    (hE : ∀ i : Fin 255, edges (ix1 i) = ((Decode.edge i.val + 1 / 128 : ℝ) : EReal)) :
    pdfs M iv edges (ix6 b h w c k j) = ((mass m v (j.val + 1) : ℝ) : EReal) := by
  pointwise [pdfs]
  rw [cdfs_apply M iv edges b h w c k _ m v _ hM hv (hE _), cdfs_apply M iv edges b h w c k _ m v _ hM hv (hE _), ← EReal.coe_sub]
  have e : Decode.edge (j.val + 1) = Decode.edge j.val + 1 / 128 := by unfold Decode.edge; push_cast; ring
  have e' : Decode.edge (1 + j.val) = Decode.edge j.val + 1 / 128 := by rw [add_comm, e]
  unfold mass upto below
  rw [if_neg (by omega), if_neg (by omega), e, e']

/-- The scaled distance of an interior bin's middle. -/
theorem mid_apply (M iv : FVec Ideal S16x32x32x3x10 .f32) (mids : FVec Ideal S254 .f32) (b : Fin 16) (h w : Fin 32) (c : Fin 3) (k : Fin 10) (j : Fin 254) :
    mid M iv mids (ix6 b h w c k j) = iv (ix5 b h w c k) * (mids (ix1 j) - M (ix5 b h w c k)) := by
  pointwise [mid, on254, tail1]

theorem zeros254 (i : S16x32x32x3x10x254.Idx) : all254 (F := Ideal) (constant S_ .f32 0x00000000#32) i = 0 := by
  show Ideal.ofBits .f32 0x00000000#32 = 0
  simp [Ideal.ofBits, Ideal.ieee]

theorem zeros10 (i : S16x32x32x3x10.Idx) : all10 (F := Ideal) (constant S_ .f32 0x00000000#32) i = 0 := by
  show Ideal.ofBits .f32 0x00000000#32 = 0
  simp [Ideal.ofBits, Ideal.ieee]

/-- What the density's logarithm is made of. -/
theorem midLog_apply (M ls iv : FVec Ideal S16x32x32x3x10 .f32) (mids : FVec Ideal S254 .f32) (b : Fin 16) (h w : Fin 32) (c : Fin 3) (k : Fin 10) (j : Fin 254) :
    midLog M ls iv mids (ix6 b h w c k j) = mid M iv mids (ix6 b h w c k j) - ls (ix5 b h w c k)
      - Ideal.ofBits .f32 0x40000000#32 * softplus (all254 (constant S_ .f32 0x00000000#32)) (mid M iv mids) (ix6 b h w c k j) := by
  pointwise [midLog, on254, tail1, all254]

theorem lit_floor : Ideal.ofBits .f32 0x2B8CBCCC#32 = ((9223372 / 2 ^ 63 : ℝ) : EReal) := by
  simp [Ideal.ofBits, Ideal.ieee, -EReal.coe_mul]; norm_num

/-- The logarithm of what a component gives an interior bin. -/
theorem inner_apply (M ls iv : FVec Ideal S16x32x32x3x10 .f32) (edges : FVec Ideal S255 .f32) (mids : FVec Ideal S254 .f32) (b : Fin 16) (h w : Fin 32) (c : Fin 3) (k : Fin 10) (j : Fin 254)
    (m s : ℝ) (hM : M (ix5 b h w c k) = (m : EReal)) (hs : ls (ix5 b h w c k) = ((max s (-7) : ℝ) : EReal)) (hv : iv (ix5 b h w c k) = ((inv s : ℝ) : EReal))
    (hE : ∀ i : Fin 255, edges (ix1 i) = ((Decode.edge i.val + 1 / 128 : ℝ) : EReal))
    (hD : ∀ i : Fin 254, mids (ix1 i) = ((Decode.edge (i.val + 1) + 1 / 256 : ℝ) : EReal)) :
    inner M ls iv edges mids (ix6 b h w c k j) = ((Real.log (contrib m (inv s) (j.val + 1)) : ℝ) : EReal) := by
  have hmid : mid M iv mids (ix6 b h w c k j) = ((inv s * (Decode.edge (j.val + 1) + 1 / 256 - m) : ℝ) : EReal) := by
    rw [mid_apply, hv, hM, hD, ← EReal.coe_sub, ← EReal.coe_mul]
  have hl : midLog M ls iv mids (ix6 b h w c k j) - Ideal.log (Ideal.ofBits .f32 0x42FF0000#32) = ((Real.log (dens m (inv s) (j.val + 1)) : ℝ) : EReal) := by
    rw [midLog_apply, softplus_apply _ _ _ _ (zeros254 _) hmid, hmid, hs, lit_two, lit_half, log_real (by norm_num), ← EReal.coe_sub, ← EReal.coe_mul,
      ← EReal.coe_sub, ← EReal.coe_sub, log_dens]
  have hj : 0 < j.val + 1 ∧ j.val + 1 < 255 := ⟨by omega, by omega⟩
  pointwise [inner, all254]
  rw [hl, pdfs_apply M iv edges b h w c k j m _ hM hv hE, lit_tiny, lit_floor, max_coe]
  simp only [EReal.coe_lt_coe_iff]
  unfold contrib
  by_cases ht : tiny < mass m (inv s) (j.val + 1)
  · have hf : (9223372 / 2 ^ 63 : ℝ) ≤ tiny := by unfold tiny; norm_num
    rw [if_pos ht, if_neg (fun h => absurd h.2 (not_le.2 ht)), max_eq_right (hf.trans ht.le), log_real (mass_pos (inv_pos s) _)]
  · rw [if_neg ht, if_pos ⟨hj, not_lt.1 ht⟩]

theorem first_apply (M iv : FVec Ideal S16x32x32x3x10 .f32) (edges : FVec Ideal S255 .f32) (b : Fin 16) (h w : Fin 32) (c : Fin 3) (k : Fin 10) :
    first M iv edges (ix5 b h w c k) = (edges (ix1 0) - M (ix5 b h w c k)) * iv (ix5 b h w c k) := by
  pointwise [first, all10]

theorem last_apply (M iv : FVec Ideal S16x32x32x3x10 .f32) (edges : FVec Ideal S255 .f32) (b : Fin 16) (h w : Fin 32) (c : Fin 3) (k : Fin 10) :
    last M iv edges (ix5 b h w c k) = (edges (ix1 254) - M (ix5 b h w c k)) * iv (ix5 b h w c k) := by
  pointwise [last, all10]

/-- The three parts of the bins. -/
theorem logs_split (M ls iv : FVec Ideal S16x32x32x3x10 .f32) (edges : FVec Ideal S255 .f32) (mids : FVec Ideal S254 .f32) (b : Fin 16) (h w : Fin 32) (c : Fin 3) (k : Fin 10) (t : Fin 256) :
    logs M ls iv edges mids (ix6 b h w c k t) =
      if _ : t.val < 1 then first M iv edges (ix5 b h w c k) - softplus (all10 (constant S_ .f32 0x00000000#32)) (first M iv edges) (ix5 b h w c k)
      else if h2 : t.val - 1 < 254 then inner M ls iv edges mids (ix6 b h w c k ⟨t.val - 1, h2⟩)
      else -softplus (all10 (constant S_ .f32 0x00000000#32)) (last M iv edges) (ix5 b h w c k) := by
  pointwise [logs, tail1]

/-- The logarithm of what a component gives a bin. -/
theorem logs_apply (M ls iv : FVec Ideal S16x32x32x3x10 .f32) (edges : FVec Ideal S255 .f32) (mids : FVec Ideal S254 .f32) (b : Fin 16) (h w : Fin 32) (c : Fin 3) (k : Fin 10) (t : Fin 256)
    (m s : ℝ) (hM : M (ix5 b h w c k) = (m : EReal)) (hs : ls (ix5 b h w c k) = ((max s (-7) : ℝ) : EReal)) (hv : iv (ix5 b h w c k) = ((inv s : ℝ) : EReal))
    (hE : ∀ i : Fin 255, edges (ix1 i) = ((Decode.edge i.val + 1 / 128 : ℝ) : EReal))
    (hD : ∀ i : Fin 254, mids (ix1 i) = ((Decode.edge (i.val + 1) + 1 / 256 : ℝ) : EReal)) :
    logs M ls iv edges mids (ix6 b h w c k t) = ((Real.log (contrib m (inv s) t.val) : ℝ) : EReal) := by
  rw [logs_split]
  split_ifs with h1 h2
  · have ht : t.val = 0 := by omega
    have hf : first M iv edges (ix5 b h w c k) = (((Decode.edge 0 + 1 / 128 - m) * inv s : ℝ) : EReal) := by
      rw [first_apply, hE, hM, hv, ← EReal.coe_sub, ← EReal.coe_mul]; rfl
    have e : contrib m (inv s) 0 = sg ((Decode.edge 0 + 1 / 128 - m) * inv s) := by unfold contrib mass upto below; simp
    rw [softplus_apply _ _ _ _ (zeros10 _) hf, hf, ← EReal.coe_sub, sub_softplus, ht, e]
  · rw [inner_apply M ls iv edges mids b h w c k _ m s hM hs hv hE hD]
    have ht : t.val - 1 + 1 = t.val := by omega
    simp only [ht]
  · have ht : t.val = 255 := by omega
    have hf : last M iv edges (ix5 b h w c k) = (((Decode.edge 255 - m) * inv s : ℝ) : EReal) := by
      have e : Decode.edge 254 + 1 / 128 = Decode.edge 255 := by unfold Decode.edge; norm_num
      rw [last_apply, hE, hM, hv, ← EReal.coe_sub, ← EReal.coe_mul, ← e]; rfl
    have e : contrib m (inv s) 255 = 1 - sg ((Decode.edge 255 - m) * inv s) := by unfold contrib mass upto below; simp
    rw [softplus_apply _ _ _ _ (zeros10 _) hf, ← EReal.coe_neg, neg_softplus, ht, e]

/-- The sum over the components. -/
theorem sum_apply (y : FVec Ideal S16x32x32x3x10x256 .f32) (b : Fin 16) (h w : Fin 32) (c : Fin 3) (t : Fin 256) :
    Ideal.hostReduceAdd reducesTo_S16x32x32x3x10x256_S16x32x32x3x256_d4 y 0 (ix5 b h w c t) = ∑ k : Fin 10, y (ix6 b h w c k t) := by
  rw [Ideal.hostReduceAdd_single reducesTo_S16x32x32x3x10x256_S16x32x32x3x256_d4 (by decide), zero_add]
  refine Finset.sum_congr rfl fun k _ => ?_
  exact congrArg y (funext fun a => Fin.ext (by match a with | ⟨0, _⟩ => rfl | ⟨1, _⟩ => rfl | ⟨2, _⟩ => rfl | ⟨3, _⟩ => rfl | ⟨4, _⟩ => rfl | ⟨5, _⟩ => rfl))

/-- The logarithm of the mixture's mass in a bin, less the penalty. -/
theorem logits_apply (lw : FVec Ideal S16x32x32x10 .f32) (cells : FVec Ideal S16x32x32x3x10x256 .f32) (pen : FVec Ideal S16x32x32x3x256 .f32) (b : Fin 16) (h w : Fin 32) (c : Fin 3) (t : Fin 256)
    (L M S : Fin 10 → ℝ) (hw : ∀ k, lw (ix4 b h w k) = ((Real.log (wt L k) : ℝ) : EReal))
    (hc : ∀ k, cells (ix6 b h w c k t) = ((Real.log (contrib (M k) (inv (S k)) t.val) : ℝ) : EReal)) :
    logits lw cells pen (ix5 b h w c t) = ((Real.log (score L M S t.val) : ℝ) : EReal) - pen (ix5 b h w c t) := by
  pointwise [logits]
  rw [sum_apply]
  have hk : ∀ k : Fin 10, Ideal.exp (((Real.log (contrib (M k) (inv (S k)) t.val) : ℝ) : EReal) + ((Real.log (wt L k) : ℝ) : EReal))
      = ((wt L k * contrib (M k) (inv (S k)) t.val : ℝ) : EReal) := by
    intro k
    rw [← EReal.coe_add, Ideal.exp_coe, Real.exp_add, Real.exp_log (contrib_pos (inv_pos _) _), Real.exp_log (wt_pos L k), mul_comm]
  pointwise
  simp only [hc, hw, hk, sum_coe]
  exact congrArg (· - pen (ix5 b h w c t)) (log_real (score_pos L M S t.val))

/-- The least bin of the box at which the mass is the greatest: the penalty keeps the bins outside from winning. -/
theorem pick_apply (t : IVec S256 32) (g : FVec Ideal S16x32x32x3x256 .f32) (b : Fin 16) (h w : Fin 32) (c : Fin 3) (lo hi : ℕ) (f : ℕ → ℝ) (P : ℝ)
    (hle : lo ≤ hi) (hhi : hi ≤ 255) (hf : ∀ n, 0 < f n) (hup : ∀ n, Real.log (f n) ≤ 7) (hdown : ∀ n, n ≤ 255 → -(7 * 10 ^ 29) ≤ Real.log (f n)) (hP : 8 * 10 ^ 29 ≤ P)
    (ht : ∀ i : Fin 256, t (ix1 i) = BitVec.ofNat 32 i.val)
    (hg : ∀ i : Fin 256, g (ix5 b h w c i) = if lo ≤ i.val ∧ i.val ≤ hi then ((Real.log (f i.val) : ℝ) : EReal) else ((Real.log (f i.val) - P : ℝ) : EReal)) :
    pick t g (ix4 b h w c) = ((val (best lo hi f) : ℝ) : EReal) := by
  pointwise [pick]
  obtain ⟨b1, b2, b3⟩ := best_spec hle f
  have b4 : ∀ {t : ℕ}, lo ≤ t → t ≤ hi → f t = f (best lo hi f) → best lo hi f ≤ t := fun h1 h2 e => best_le hle f h1 h2 e
  generalize best lo hi f = n at b1 b2 b3 b4 ⊢
  have hout : ∀ i : ℕ, Real.log (f i) - P < Real.log (f n) := by
    intro i
    have h1 := hup i
    have h2 := hdown n (by omega)
    norm_num at h2 hP
    linarith
  simp only [hg, ht, lit_bot, lit_half]
  rw [fold_max_eq Finset.univ _ ⊥ ((Real.log (f n) : ℝ) : EReal) bot_le (⟨n, by omega⟩ : Fin 256) (Finset.mem_univ _)
    (by exact if_pos ⟨b1, b2⟩)
    (by
      intro j _
      split_ifs with hj
      · exact EReal.coe_le_coe_iff.2 (Real.log_le_log (hf _) (b3 _ hj.1 hj.2))
      · exact EReal.coe_le_coe_iff.2 (hout _).le)]
  rw [fold_minsi_eq Finset.univ _ _ (BitVec.ofNat 32 n) (by rw [toInt_small (by omega)]; show _ ≤ (2147483647 : ℤ); omega) ⟨n, by omega⟩ (Finset.mem_univ _)
    (by rw [if_pos (if_pos ⟨b1, b2⟩)])
    (by
      intro j _
      rw [toInt_small (by omega)]
      split_ifs with h1 h2 h2
      · rw [toInt_small (by omega)]
        have := b4 h1.1 h1.2 (Real.log_injOn_pos (hf _) (hf _) (EReal.coe_eq_coe_iff.1 h2))
        exact_mod_cast this
      · show _ ≤ (256 : ℤ); omega
      · exact absurd (EReal.coe_eq_coe_iff.1 h2) (hout _).ne
      · show _ ≤ (256 : ℤ); omega)]
  rw [sitofp_small (by omega), ← EReal.coe_sub, div_eq _ _ (by norm_num)]
  rfl

theorem stack_apply (x y z : FVec Ideal S16x32x32 .f32) (b : Fin 16) (h w : Fin 32) (c : Fin 3) :
    stack x y z (ix4 b h w c) = match c with | 0 => x (ix3 b h w) | 1 => y (ix3 b h w) | 2 => z (ix3 b h w) := by
  fin_cases c <;> pointwise [stack]

theorem pix0_apply (x : FVec Ideal S16x32x32x3 .f32) (b : Fin 16) (h w : Fin 32) : pix0 x (ix3 b h w) = x (ix4 b h w 0) := by
  pointwise [pix0]

theorem pix1_apply (x : FVec Ideal S16x32x32x3 .f32) (b : Fin 16) (h w : Fin 32) : pix1 x (ix3 b h w) = x (ix4 b h w 1) := by
  pointwise [pix1]

theorem pix2_apply (x : FVec Ideal S16x32x32x3 .f32) (b : Fin 16) (h w : Fin 32) : pix2 x (ix3 b h w) = x (ix4 b h w 2) := by
  pointwise [pix2]

/-! ## The parameters -/

/-- The logarithm of a weight. -/
theorem logWeights_apply (l : FVec Ideal S16x100x32x32 .f32) (b : Fin 16) (h w : Fin 32) (k : Fin 10) (L : Fin 100 → ℝ) (hl : ∀ i, l (ix4 b i h w) = (L i : EReal)) :
    logWeights l (ix4 b h w k) = ((Real.log (wt (fun k => L (logit k)) k) : ℝ) : EReal) := by
  pointwise [logWeights, shifted, weightLogits, params, beside]
  obtain ⟨c, hc⟩ := fold_max_real (fun k => L (logit k))
  have h' : ∀ k : Fin 10, l (ix4 b ⟨k.val, by omega⟩ h w) = (L (logit k) : EReal) := fun k => hl _
  simp only [h', lit_bot, hc, max_eq_right bot_le, ← EReal.coe_sub, Ideal.exp_coe, sum_coe]
  rw [log_real (Finset.sum_pos (fun _ _ => Real.exp_pos _) ⟨0, Finset.mem_univ _⟩), ← EReal.coe_sub, log_wt (fun k => L (logit k)) c k]

theorem rawMeans_apply (l : FVec Ideal S16x100x32x32 .f32) (b : Fin 16) (h w : Fin 32) (c : Fin 3) (k : Fin 10) :
    rawMeans l (ix5 b h w c k) = l (ix4 b (param c 0 k) h w) := by
  pointwise [rawMeans, rest, params]
  refine congrArg (fun i => l (ix4 b i h w)) (Fin.ext ?_)
  show 10 + (c.val * 30 + k.val) = 10 + 30 * c.val + 10 * 0 + k.val
  omega

theorem scales_apply (l : FVec Ideal S16x100x32x32 .f32) (b : Fin 16) (h w : Fin 32) (c : Fin 3) (k : Fin 10) :
    scales l (ix5 b h w c k) = max ((-7 : ℝ) : EReal) (l (ix4 b (param c 1 k) h w)) := by
  pointwise [scales, rest, params, all10]
  rw [lit_neg7]
  refine congrArg (fun i => max ((-7 : ℝ) : EReal) (l (ix4 b i h w))) (Fin.ext ?_)
  show 10 + (c.val * 30 + (10 + k.val)) = 10 + 30 * c.val + 10 * 1 + k.val
  omega

theorem coeffs_apply (l : FVec Ideal S16x100x32x32 .f32) (b : Fin 16) (h w : Fin 32) (c : Fin 3) (k : Fin 10) :
    coeffs l (ix5 b h w c k) = Ideal.tanh (l (ix4 b (param c 2 k) h w)) := by
  pointwise [coeffs, rest, params]
  refine congrArg (fun i => Ideal.tanh (l (ix4 b i h w))) (Fin.ext ?_)
  show 10 + (c.val * 30 + (20 + k.val)) = 10 + 30 * c.val + 10 * 2 + k.val
  omega

theorem one_plus (j : ℕ) : IntOp.addi 1#32 (BitVec.ofNat 32 j) = BitVec.ofNat 32 (1 + j) := (BitVec.ofNat_add 1 j).symm

theorem edges_apply (j : Fin 255) : edges (F := Ideal) (ix1 j) = ((Decode.edge j.val + 1 / 128 : ℝ) : EReal) := by
  pointwise [edges]
  rw [one_plus, sitofp_small (by omega), lit_e128, div_eq _ _ (by norm_num), ← EReal.coe_one, ← EReal.coe_sub]
  unfold Decode.edge
  congr 1
  push_cast
  ring

theorem mids_apply (j : Fin 254) : mids (F := Ideal) (ix1 j) = ((Decode.edge (j.val + 1) + 1 / 256 : ℝ) : EReal) := by
  pointwise [mids]
  have e : IntOp.addi (IntOp.muli 2#32 (BitVec.ofNat 32 (1 + j.val))) 1#32 = BitVec.ofNat 32 (2 * (1 + j.val) + 1) := by
    rw [BitVec.ofNat_add (2 * (1 + j.val)) 1, BitVec.ofNat_mul]
    rfl
  rw [one_plus, e, sitofp_small (by omega), lit_e256, div_eq _ _ (by norm_num), ← EReal.coe_one, ← EReal.coe_sub]
  unfold Decode.edge
  congr 1
  push_cast
  ring

theorem bins_apply (j : Fin 256) : bins (ix1 j) = BitVec.ofNat 32 j.val := by
  pointwise [bins]

/-! ## The penalty -/

/-- The penalty's value. -/
def pen : ℝ := 13234890 * 2 ^ 76

theorem lit_pen : Ideal.ofBits .f32 0x7149F2CA#32 = ((pen : ℝ) : EReal) := by
  simp [Ideal.ofBits, Ideal.ieee, -EReal.coe_mul, pen]

theorem pen_ge : 8 * 10 ^ 29 ≤ pen := by unfold pen; norm_num

theorem maxsi_zero : ∀ (r : Fin 256) (e : Fin 20), IntOp.maxsi 0#32 (IntOp.subi (BitVec.ofNat 32 r.val) (BitVec.ofNat 32 e.val)) = BitVec.ofNat 32 (r.val - e.val) := by
  decide +kernel

theorem minsi_top : ∀ (r : Fin 256) (e : Fin 20), IntOp.minsi 255#32 (IntOp.addi (BitVec.ofNat 32 r.val) (BitVec.ofNat 32 e.val)) = BitVec.ofNat 32 (min (r.val + e.val) 255) := by
  decide +kernel

/-- A truth value as a number. -/
theorem uitofp_or (p q : Prop) [Decidable p] [Decidable q] :
    FloatOps.uitofp (F := Ideal) FTy.f32 (IntOp.ori (BitVec.ofBool (decide p)) (BitVec.ofBool (decide q))) = if p ∨ q then ((1 : ℝ) : EReal) else ((0 : ℝ) : EReal) := by
  show (((IntOp.ori (BitVec.ofBool (decide p)) (BitVec.ofBool (decide q))).toNat : ℝ) : EReal) = _
  by_cases hp : p <;> by_cases hq : q <;> simp [hp, hq, IntOp.ori]

/-- The bins outside the box are penalized. -/
theorem penalty_apply (x : FVec Ideal S16x32x32x3 .f32) (v : IVec S_ 32) (b : Fin 16) (h w : Fin 32) (c : Fin 3) (t : Fin 256) (X : ℝ) (e : ℕ) (he : e < 20)
    (hx : x (ix4 b h w c) = (X : EReal)) (h0 : -1 ≤ X) (h1 : X ≤ 1) (hv : v ix0 = BitVec.ofNat 32 e) :
    penalty x v (ix5 b h w c t) = if t.val < bin X - e ∨ min (bin X + e) 255 < t.val then ((pen : ℝ) : EReal) else 0 := by
  have hb := bin_le h1
  pointwise [penalty, perBin, everyBin, bins, lower, upper, recovered]
  rw [hx, hv, lit_half, fptosi_bin h0 h1, maxsi_zero ⟨bin X, hb⟩ ⟨e, he⟩, minsi_top ⟨bin X, hb⟩ ⟨e, he⟩]
  simp only
  rw [lt_small (by omega) (by omega), gt_small (by omega) (by omega), uitofp_or, lit_pen]
  split_ifs
  · rw [EReal.coe_one, one_mul]
  · rw [EReal.coe_zero, zero_mul]

/-! ## A channel -/

theorem abs_mean_le {l : Fin 100 → ℝ} (hl : ∀ i, |l i| ≤ far) (c : Fin 3) {v0 v1 : ℝ} (h0 : |v0| ≤ 1) (h1 : |v1| ≤ 1) (k : Fin 10) : |mean l c v0 v1 k| ≤ far + 2 := by
  have ht : ∀ y v : ℝ, |v| ≤ 1 → |Real.tanh y * v| ≤ 1 := by
    intro y v hv
    rw [abs_mul]
    exact mul_le_one₀ (Real.abs_tanh_lt_one y).le (abs_nonneg _) hv
  have hm := hl (param c 0 k)
  fin_cases c
  · show |l (param 0 0 k)| ≤ _
    exact hm.trans (by linarith)
  · show |l (param 1 0 k) + Real.tanh (l (param 0 2 k)) * v0| ≤ _
    exact (abs_add_le _ _).trans (add_le_add hm ((ht _ _ h0).trans (by norm_num)))
  · show |l (param 2 0 k) + (Real.tanh (l (param 1 2 k)) * v0 + Real.tanh (l (param 2 2 k)) * v1)| ≤ _
    refine (abs_add_le _ _).trans (add_le_add hm ((abs_add_le _ _).trans ?_))
    linarith [ht (l (param 1 2 k)) v0 h0, ht (l (param 2 2 k)) v1 h1]

/-- The reference's pass over the channels with the pixels, parameters and box of the launch. -/
abbrev over (x : FVec Ideal S16x3x32x32 .f32) (l : FVec Ideal S16x100x32x32 .f32) (e : IVec S_ 32) : FVec Ideal S16x32x32x3 .f32 → FVec Ideal S16x32x32x3 .f32 :=
  pass (logWeights l) (rawMeans l) (scales l) (coeffs l) edges mids (penalty (pixels x) e) bins

/-- A channel of the pass: the channel decoded, given the values that the input holds for the channels before. -/
theorem over_apply (x : FVec Ideal S16x3x32x32 .f32) (l : FVec Ideal S16x100x32x32 .f32) (v : IVec S_ 32) (y : FVec Ideal S16x32x32x3 .f32) (b : Fin 16) (h w : Fin 32)
    (c : Fin 3) (X : Fin 3 → ℝ) (L : Fin 100 → ℝ) (e : ℕ) (he : e < 20) (V0 V1 : ℝ)
    (hx : ∀ c, x (ix4 b c h w) = (X c : EReal)) (h0 : ∀ c, -1 ≤ X c) (h1 : ∀ c, X c ≤ 1) (hl : ∀ i, l (ix4 b i h w) = (L i : EReal)) (hL : ∀ i, |L i| ≤ far)
    (hv : v ix0 = BitVec.ofNat 32 e) (hy0 : y (ix4 b h w 0) = (V0 : EReal)) (hy1 : y (ix4 b h w 1) = (V1 : EReal)) (a0 : |V0| ≤ 1) (a1 : |V1| ≤ 1) :
    over x l v y (ix4 b h w c) = ((step X L e c V0 V1 : ℝ) : EReal) := by
  have hb := bin_le (h1 c)
  have hp : pixels x (ix4 b h w c) = (X c : EReal) := by
    pointwise [pixels]
    exact hx c
  have hM : ∀ k, means (rawMeans l) (coeffs l) y (ix5 b h w c k) = ((mean L c V0 V1 k : ℝ) : EReal) := by
    intro k
    rw [means_apply]
    simp only [rawMeans_apply, coeffs_apply, hl, hy0, hy1, Ideal.tanh_coe, ← EReal.coe_mul, ← EReal.coe_add]
    fin_cases c
    · rfl
    · rfl
    · simp only [add_assoc]; rfl
  have hs : ∀ k, scales l (ix5 b h w c k) = ((max (L (param c 1 k)) (-7) : ℝ) : EReal) := by
    intro k
    rw [scales_apply, hl, max_coe, max_comm]
  have hi : ∀ k, (Host.exp (Host.negf (scales l)) : FVec Ideal S16x32x32x3x10 .f32) (ix5 b h w c k) = ((inv (L (param c 1 k)) : ℝ) : EReal) := by
    intro k
    pointwise
    rw [hs, ← EReal.coe_neg, Ideal.exp_coe]
    rfl
  unfold over pass step chan
  refine pick_apply _ _ b h w c (bin (X c) - e) (min (bin (X c) + e) 255) (score (fun k => L (logit k)) (mean L c V0 V1) (fun k => L (param c 1 k))) pen
    (by omega) (by omega) (score_pos _ _ _) (log_score_le _ _ _)
    (fun n hn => log_score_ge _ _ _ (fun k => hL _) (abs_mean_le hL c a0 a1) (fun k => hL _) hn) pen_ge bins_apply ?_
  intro t
  rw [logits_apply _ _ _ b h w c t (fun k => L (logit k)) (mean L c V0 V1) (fun k => L (param c 1 k)) (fun k => logWeights_apply l b h w k L hl)
    (fun k => logs_apply _ _ _ _ _ b h w c k t _ _ (hM k) (hs k) (hi k) edges_apply mids_apply),
    penalty_apply _ v b h w c t (X c) e he hp (h0 c) (h1 c) hv]
  by_cases hin : bin (X c) - e ≤ t.val ∧ t.val ≤ min (bin (X c) + e) 255
  · rw [if_pos hin, if_neg (by omega), sub_zero]
  · rw [if_neg hin, if_pos (by omega), ← EReal.coe_sub]

theorem abs_val_le {n : ℕ} (h : n ≤ 255) : |val n| ≤ 1 := by
  have h' : (n : ℝ) ≤ 255 := by exact_mod_cast h
  have h0 : (0 : ℝ) ≤ n := Nat.cast_nonneg n
  unfold val
  rw [abs_le, le_div_iff₀ (by norm_num), div_le_iff₀ (by norm_num)]
  constructor <;> linarith

theorem abs_step_le (X : Fin 3 → ℝ) (L : Fin 100 → ℝ) (e : ℕ) (c : Fin 3) (V0 V1 : ℝ) (h1 : ∀ c, X c ≤ 1) : |step X L e c V0 V1| ≤ 1 := by
  have hb := bin_le (h1 c)
  unfold step chan
  apply abs_val_le
  exact (best_spec (by omega) _).2.1.trans (by omega)

/-- The reference at a pixel: the pixel decoded. -/
theorem result_apply (x : FVec Ideal S16x3x32x32 .f32) (l : FVec Ideal S16x100x32x32 .f32) (v : IVec S_ 32) (b : Fin 16) (h w : Fin 32)
    (c : Fin 3) (X : Fin 3 → ℝ) (L : Fin 100 → ℝ) (e : ℕ) (he : e < 20)
    (hx : ∀ c, x (ix4 b c h w) = (X c : EReal)) (h0 : ∀ c, -1 ≤ X c) (h1 : ∀ c, X c ≤ 1) (hl : ∀ i, l (ix4 b i h w) = (L i : EReal)) (hL : ∀ i, |L i| ≤ far)
    (hv : v ix0 = BitVec.ofNat 32 e) :
    result x l v (ix4 b c h w) = ((pixel X L e c : ℝ) : EReal) := by
  have e1 : result x l v (ix4 b c h w) = decoded (over x l v) (pixels x) (ix4 b h w c) := by
    pointwise [result]
  have hp : ∀ c, pixels x (ix4 b h w c) = (X c : EReal) := by
    intro c
    pointwise [pixels]
    exact hx c
  have ax : ∀ c, |X c| ≤ 1 := fun c => abs_le.2 ⟨h0 c, h1 c⟩
  have go := fun y c V0 V1 hy0 hy1 a0 a1 => over_apply x l v y b h w c X L e he V0 V1 hx h0 h1 hl hL hv hy0 hy1 a0 a1
  have s0 : over x l v (pixels x) (ix4 b h w 0) = ((step X L e 0 0 0 : ℝ) : EReal) :=
    go _ 0 (X 0) (X 1) (hp 0) (hp 1) (ax 0) (ax 1)
  have s1 : over x l v (stack (pix0 (over x l v (pixels x))) (pix1 (pixels x)) (pix2 (pixels x))) (ix4 b h w 1) = ((step X L e 1 (step X L e 0 0 0) 0 : ℝ) : EReal) := by
    refine go _ 1 (step X L e 0 0 0) (X 1) ?_ ?_ (abs_step_le _ _ _ _ _ _ h1) (ax 1)
    · rw [stack_apply]; simp only [pix0_apply]; exact s0
    · rw [stack_apply]; simp only [pix1_apply]; exact hp 1
  rw [e1]
  unfold decoded
  rw [stack_apply]
  fin_cases c
  · simp only [pix0_apply]; exact s0
  · simp only [pix1_apply]; exact s1
  · simp only [pix2_apply]
    refine go _ 2 (step X L e 0 0 0) (step X L e 1 (step X L e 0 0 0) 0) ?_ ?_ (abs_step_le _ _ _ _ _ _ h1) (abs_step_le _ _ _ _ _ _ h1)
    · rw [stack_apply]; simp only [pix0_apply]; exact s0
    · rw [stack_apply]; simp only [pix1_apply]; exact s1

end Cert.ReferenceIdeal.Step
-- ==== Proof.RefValue.lean ====
/- The reference's run: its result buffer holds `result` of the arguments. -/
module

public import proofs.«01_k».proof.Proof.Gen.ReferenceIdeal.Run
public import proofs.«01_k».proof.Proof.RefRead

@[expose] public section

noncomputable section

namespace Cert.ReferenceIdeal.Step

open Cert.ReferenceIdeal Cert.ReferenceIdeal.Gen Cert.ReferenceIdeal.Value Idealize.ShloMosaic Idealize.ShloMosaic.TcCoe Idealize.SL.Sem Idealize.ShloMosaic.StableHlo

variable {F : FTy → Type} [FloatOps F] (V : Valuation τ sig (Elt F))

/-- The pixels that the buffers hold. -/
abbrev argX : FVec F S16x3x32x32 .f32 := V (Proc.devRef .tc main_arg0)

/-- The mixture's parameters that the buffers hold. -/
abbrev argL : FVec F S16x100x32x32 .f32 := V (Proc.devRef .tc main_arg1)

/-- The box's half width that the buffers hold. -/
abbrev argE : IVec S_ 32 := V (Proc.devRef .tc main_arg2)

/-- One pass over the channels, with the parameters of the launch. -/
abbrev sweep : FVec F S16x32x32x3 .f32 → FVec F S16x32x32x3 .f32 :=
  pass (logWeights (argL V)) (rawMeans (argL V)) (scales (argL V)) (coeffs (argL V)) edges mids (penalty (pixels (argX V)) (argE V)) bins

/-- The logits of one pass. -/
abbrev scores (x : FVec F S16x32x32x3 .f32) : FVec F S16x32x32x3x256 .f32 :=
  logits (logWeights (argL V)) (logs (means (rawMeans (argL V)) (coeffs (argL V)) x) (scales (argL V)) (Host.exp (Host.negf (scales (argL V)))) edges mids)
    (penalty (pixels (argX V)) (argE V))

/-- The first pass reads the given pixels. -/
theorem first_pass : res_main_v169 V = sweep V (res_main_v0 V) := rfl

/-- The second pass reads the first channel decoded. -/
theorem second_input : res_main_v179 V = stack (pix0 (res_main_v169 V)) (pix1 (res_main_v0 V)) (pix2 (res_main_v0 V)) := rfl

/-- The second pass. -/
theorem second_pass : res_main_v289 V = sweep V (res_main_v179 V) := rfl

/-- The third pass reads the first two channels decoded. -/
theorem third_input : res_main_v299 V = stack (pix0 (res_main_v169 V)) (pix1 (res_main_v289 V)) (pix2 (res_main_v0 V)) := rfl

/-- The third pass's logits. -/
theorem third_scores : res_main_v398 V = scores V (res_main_v299 V) := rfl

/-- The three decoded channels, as the run leaves them, are `result` of the arguments. -/
theorem result_eq : transpose S16x3x32x32 [0, 3, 1, 2]
      (stack (pix0 (res_main_v169 V)) (pix1 (res_main_v289 V)) (pix2 (pick bins (res_main_v398 V)))) transposes_S16x32x32x3_S16x3x32x32_0_3_1_2
    = result (argX V) (argL V) (argE V) := by
  rw [third_scores, third_input, second_pass, second_input, first_pass]
  rfl

/-- The reference's run: the result holds `result` of the arguments, which are unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c : Thread nD τ).loc main_v420)
        = result (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (result_eq (launchContents m c)), (h c).2⟩) (Value.run m ρ)

end Cert.ReferenceIdeal.Step

end
-- ==== Proof.Inputs.lean ====
/- The precondition read back: the pixels and the parameters are real numbers within their bounds, and the box's
   half width is a small natural number. -/
module

public import proofs.«01_k».proof.Proof.Gen.Pre_inputs
public import proofs.«01_k».proof.Proof.Scalars
public import proofs.«01_k».proof.Proof.Bounds
public import Idealize.ShloMosaic.Lib.ReduceAll

@[expose] public section

noncomputable section

namespace Cert.Pre_inputs

open Idealize.ShloMosaic Cert.Pre_inputs.Gen Decode

theorem lit_far : Ideal.ofBits .f32 0x6AA56FA6#32 = ((10842022 * 2 ^ 63 : ℝ) : EReal) := by
  simp [Ideal.ofBits, Ideal.ieee, -EReal.coe_mul]

theorem far_ge : (10842022 * 2 ^ 63 : ℝ) ≤ far := by unfold far; norm_num

theorem lit_one : Ideal.ofBits .f32 0x3F800000#32 = ((1 : ℝ) : EReal) := by
  simp [Ideal.ofBits, Ideal.ieee, -EReal.coe_mul]; norm_num

theorem of_decide {p : Prop} [Decidable p] (h : BitVec.ofBool (decide p) = 1#1) : p := by
  by_contra hp
  simp [hp] at h

theorem real_between {x : EReal} {a b : ℝ} (h0 : (a : EReal) ≤ x) (h1 : x ≤ (b : EReal)) : ∃ r : ℝ, x = (r : EReal) ∧ a ≤ r ∧ r ≤ b := by
  induction x with
  | bot => exact absurd h0 (not_le.2 (EReal.bot_lt_coe a))
  | top => exact absurd h1 (not_le.2 (EReal.coe_lt_top b))
  | coe r => exact ⟨r, rfl, EReal.coe_le_coe_iff.1 h0, EReal.coe_le_coe_iff.1 h1⟩

/-- What the precondition says of the three arguments. -/
theorem reads (x : FVec Ideal S16x3x32x32 .f32) (l : FVec Ideal S16x100x32x32 .f32) (v : IVec S_ 32) (hp : fn (F := Ideal) x l v = fun _ => 1#1) :
    (∀ i, ∃ r : ℝ, x i = (r : EReal) ∧ -1 ≤ r ∧ r ≤ 1) ∧ (∀ i, ∃ r : ℝ, l i = (r : EReal) ∧ |r| ≤ far) ∧ ∃ e : ℕ, e < 20 ∧ v ix0 = BitVec.ofNat 32 e := by
  have h := congrFun hp ix0
  dsimp only [fn] at h
  obtain ⟨h, h19⟩ := IntOp.andi_eq_one.1 h
  obtain ⟨h, h00⟩ := IntOp.andi_eq_one.1 h
  obtain ⟨h, hl⟩ := IntOp.andi_eq_one.1 h
  obtain ⟨hx0, hx1⟩ := IntOp.andi_eq_one.1 h
  have sub : Subsingleton (S_.Idx) := ⟨fun a b => funext fun i => i.elim0⟩
  refine ⟨fun i => ?_, fun i => ?_, ?_⟩
  · have a0 := Host.reduce_andi_all _ _ _ _ ix0 hx0 i
    have a1 := Host.reduce_andi_all _ _ _ _ ix0 hx1 i
    have b0 : Ideal.ofBits .f32 0xBF800000#32 ≤ x i := of_decide a0
    have b1 : x i ≤ Ideal.ofBits .f32 0x3F800000#32 := of_decide a1
    rw [lit_neg1] at b0
    rw [lit_one] at b1
    exact real_between b0 b1
  · have a := Host.reduce_andi_all _ _ _ _ ix0 hl i
    have b : max (l i) (-(l i)) ≤ Ideal.ofBits .f32 0x6AA56FA6#32 := of_decide a
    rw [lit_far] at b
    obtain ⟨r, e, r0, r1⟩ := real_between (a := -(10842022 * 2 ^ 63)) (by rw [EReal.coe_neg]; exact EReal.neg_le_of_neg_le ((le_max_right _ _).trans b)) ((le_max_left _ _).trans b)
    exact ⟨r, e, (abs_le.2 ⟨r0, r1⟩).trans far_ge⟩
  · have b0 : (0#32 : BitVec 32).toInt ≤ (v ix0).toInt := IntOp.cmpi_sge.1 h00
    have b1 : (v ix0).toInt ≤ (19#32 : BitVec 32).toInt := IntOp.cmpi_sle.1 h19
    have z0 : (0#32 : BitVec 32).toInt = 0 := rfl
    have z1 : (19#32 : BitVec 32).toInt = 19 := rfl
    rw [z0] at b0
    rw [z1] at b1
    refine ⟨(v ix0).toInt.toNat, by omega, BitVec.eq_of_toInt_eq ?_⟩
    rw [toInt_small (by omega)]
    omega

end Cert.Pre_inputs
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_inputs
public import proofs.«01_k».proof.Proof.KernelRun
public import proofs.«01_k».proof.Proof.RefValue
public import proofs.«01_k».proof.Proof.Inputs
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem Cert.Kernel

/-- The reference ends with its arguments unchanged and every counter at zero. -/
theorem reference_frame (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c : Thread Cert.ReferenceIdeal.nD Cert.ReferenceIdeal.τ).loc Cert.ReferenceIdeal.main_arg0) = m ((c : Thread Cert.ReferenceIdeal.nD Cert.ReferenceIdeal.τ).loc Cert.ReferenceIdeal.main_arg0)
      ∧ r.2.mem ((c : Thread Cert.ReferenceIdeal.nD Cert.ReferenceIdeal.τ).loc Cert.ReferenceIdeal.main_arg1) = m ((c : Thread Cert.ReferenceIdeal.nD Cert.ReferenceIdeal.τ).loc Cert.ReferenceIdeal.main_arg1)
      ∧ r.2.mem ((c : Thread Cert.ReferenceIdeal.nD Cert.ReferenceIdeal.τ).loc Cert.ReferenceIdeal.main_arg2) = m ((c : Thread Cert.ReferenceIdeal.nD Cert.ReferenceIdeal.τ).loc Cert.ReferenceIdeal.main_arg2))
      ∧ r.2.sem = fun _ => 0) :=
  (θ_run _ _ _).mono (fun r h => ⟨fun c => (h c).2, sem_eq_zero_of_no_sems (by decide) r.2⟩) (Cert.ReferenceIdeal.Step.run m g)

/-- On arguments within the precondition the kernel's result is the reference's: both hold the decoded values. -/
theorem values_eq (m : (ℓ : Loc Cert.KernelIdeal.nD Cert.KernelIdeal.τ Cert.KernelIdeal.sig) → Buf (Elt Ideal) ℓ) (c : Dev Cert.KernelIdeal.nD)
    (hp : Cert.Pre_inputs.fn (F := Ideal) (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2)) = fun _ => 1#1) :
    Cert.ReferenceIdeal.Step.result (F := Ideal) (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2))
    = Pipeline.afterTail₀ Cert.KernelIdeal.cfgs (Cert.KernelIdeal.Gen.dats m) 0 (Cert.KernelIdeal.Gen.V0 m) [Cert.KernelIdeal.Gen.hostOps1] c Cert.KernelIdeal.main_v4 := by
  obtain ⟨hx, hl, e, he, hv⟩ := Cert.Pre_inputs.reads _ _ _ hp
  choose X hX h0 h1 using hx
  choose L hL hb using hl
  funext j
  obtain ⟨b, i, h, w, rfl⟩ : ∃ b i h w, j = ix4 b i h w :=
    ⟨j 0, j 1, j 2, j 3, by funext a; fin_cases a <;> rfl⟩
  exact (Cert.ReferenceIdeal.Step.result_apply _ _ _ b h w i (fun k => X (ix4 b k h w)) (fun k => L (ix4 b k h w)) e he
      (fun k => hX _) (fun k => h0 _) (fun k => h1 _) (fun k => hL _) (fun k => hb _) hv).trans
    (Cert.KernelIdeal.Run.result_apply m c e he (fun b k h w => X (ix4 b k h w)) (fun b k h w => L (ix4 b k h w))
      (fun b k h w => hX _) (fun b k h w => h0 _) (fun b k h w => h1 _) (fun b k h w => hL _) hv b i h w).symm

theorem claim : Cert.Claim := ⟨Cert.Kernel.Gen.facts, Cert.KernelIdeal.Gen.facts, Cert.ReferenceIdeal.Gen.facts, Cert.Pre_inputs.Gen.facts,
  fun m g _ => Cert.Kernel.Gen.frame m g,
  fun m g _ => Cert.KernelIdeal.Gen.frame m g,
  fun m g _ => Cert.KernelIdeal.Gen.frame m g,
  fun m g _ => reference_frame m g,
  fun m g _ => reference_frame m g,
  IdealRules.named_const.statement Cert.KernelIdeal.κ "inv_127_5" .f32 0x3C008081#32 _ rfl,
  fun m g m' g' hp hargs => ⟨_, Cert.KernelIdeal.Run.run m g,
    (θ_run _ _ _).mono (fun r h c => ⟨by
      rw [(h c).1, (hargs c).1, (hargs c).2.1, (hargs c).2.2]
      exact values_eq m c (hp c), (h c).2⟩) (Cert.ReferenceIdeal.Step.run m' g')⟩⟩

end Cert.Proof

end
